-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![65536, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![65536, 256]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 256]⟩ ⟨2, ![65536, 256]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![65536, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Pre_finite_scores_ReferenceIdeal.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) (main_arg2 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S4096x256 : Shape := ⟨2, ![4096, 256]⟩
abbrev S2x2x4096x256 : Shape := ⟨4, ![2, 2, 4096, 256]⟩
abbrev S4096x1 : Shape := ⟨2, ![4096, 1]⟩
abbrev S2 : Shape := ⟨1, ![2]⟩
abbrev S_ : Shape := ⟨0, ![]⟩
abbrev S1x1x4096x256 : Shape := ⟨4, ![1, 1, 4096, 256]⟩
abbrev S1 : Shape := ⟨1, ![1]⟩
abbrev S1x2x4096x256 : Shape := ⟨4, ![1, 2, 4096, 256]⟩
abbrev S2x4096x256 : Shape := ⟨3, ![2, 4096, 256]⟩
abbrev S512x256 : Shape := ⟨2, ![512, 256]⟩
abbrev S512x4096 : Shape := ⟨2, ![512, 4096]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S2x2x4096x256, .f32⟩
  | .local _ .vmem, ⟨5, _⟩ => ⟨S4096x1, .f32⟩
  | .local _ .vmem, ⟨6, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 3 8 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_41 : BitVec 32 := 1#32
  let v50 : BitVec 32 := Scalar.muli v24 c1_i32_41
  let v51 : BitVec 32 := Scalar.addi c0_i32_42 v50
  v51.toNat
@[reducible] def k0_t1_loop : Scf.Loop 32 :=
  let c0_i32_49 : BitVec 32 := 0#32
  let c8_i32 : BitVec 32 := 8#32
  let v60 : BitVec 32 := Scalar.addi c0_i32_49 c8_i32
  let c1_i32_50 : BitVec 32 := 1#32
  ⟨c0_i32_49, v60, c1_i32_50⟩
def k0_off1 (k0_t1 : Fin k0_t1_loop.trips) : Fin 2 → Nat :=
  let c0_i32_49 : BitVec 32 := 0#32
  let c1_i32_50 : BitVec 32 := 1#32
  let arg10 : BitVec 32 := Scf.iv c0_i32_49 c1_i32_50 k0_t1
  let c512_i32 : BitVec 32 := 512#32
  let v522 : BitVec 32 := Scalar.muli arg10 c512_i32
  let v523 : Index := Scalar.indexCast v522
  let c0_736 : Index := 0#32
  ![v523.toNat, 0]
def k0_off2 (k0_t1 : Fin k0_t1_loop.trips) : Fin 2 → Nat :=
  let c0_i32_49 : BitVec 32 := 0#32
  let c1_i32_50 : BitVec 32 := 1#32
  let arg10 : BitVec 32 := Scf.iv c0_i32_49 c1_i32_50 k0_t1
  let c512_i32 : BitVec 32 := 512#32
  let v522 : BitVec 32 := Scalar.muli arg10 c512_i32
  let v533 : Index := Scalar.indexCast v522
  let c0_747 : Index := 0#32
  ![v533.toNat, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_77 : BitVec 32 := 1#32
  let v77 : BitVec 32 := Scalar.muli v13 c1_i32_77
  let v78 : BitVec 32 := Scalar.addi c0_i32_78 v77
  v78.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_86 : BitVec 32 := 1#32
  let v81 : BitVec 32 := Scalar.muli v24 c1_i32_86
  let v82 : BitVec 32 := Scalar.addi c0_i32_87 v81
  v82.toNat
@[reducible] def k0_t2_loop : Scf.Loop 32 :=
  let c0_i32_94 : BitVec 32 := 0#32
  let c8_i32_95 : BitVec 32 := 8#32
  let v91 : BitVec 32 := Scalar.addi c0_i32_94 c8_i32_95
  let c1_i32_96 : BitVec 32 := 1#32
  ⟨c0_i32_94, v91, c1_i32_96⟩
def k0_off3 (k0_t2 : Fin k0_t2_loop.trips) : Fin 2 → Nat :=
  let c0_i32_94 : BitVec 32 := 0#32
  let c1_i32_96 : BitVec 32 := 1#32
  let arg10 : BitVec 32 := Scf.iv c0_i32_94 c1_i32_96 k0_t2
  let c512_i32 : BitVec 32 := 512#32
  let v522 : BitVec 32 := Scalar.muli arg10 c512_i32
  let v523 : Index := Scalar.indexCast v522
  let c0_736 : Index := 0#32
  ![v523.toNat, 0]
def k0_off4 (k0_t2 : Fin k0_t2_loop.trips) : Fin 2 → Nat :=
  let c0_i32_94 : BitVec 32 := 0#32
  let c1_i32_96 : BitVec 32 := 1#32
  let arg10 : BitVec 32 := Scf.iv c0_i32_94 c1_i32_96 k0_t2
  let c512_i32 : BitVec 32 := 512#32
  let v522 : BitVec 32 := Scalar.muli arg10 c512_i32
  let v533 : Index := Scalar.indexCast v522
  let c0_747 : Index := 0#32
  ![v533.toNat, 0]
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_123 : BitVec 32 := 1#32
  let v108 : BitVec 32 := Scalar.muli v13 c1_i32_123
  let v109 : BitVec 32 := Scalar.addi c0_i32_124 v108
  v109.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v112 : BitVec 32 := Scalar.muli v24 c1_i32_132
  let v113 : BitVec 32 := Scalar.addi c0_i32_133 v112
  v113.toNat
@[reducible] def k0_t3_loop : Scf.Loop 32 :=
  let c0_i32_140 : BitVec 32 := 0#32
  let c8_i32_141 : BitVec 32 := 8#32
  let v122 : BitVec 32 := Scalar.addi c0_i32_140 c8_i32_141
  let c1_i32_142 : BitVec 32 := 1#32
  ⟨c0_i32_140, v122, c1_i32_142⟩
def k0_off5 (k0_t3 : Fin k0_t3_loop.trips) : Fin 2 → Nat :=
  let c0_i32_140 : BitVec 32 := 0#32
  let c1_i32_142 : BitVec 32 := 1#32
  let arg10 : BitVec 32 := Scf.iv c0_i32_140 c1_i32_142 k0_t3
  let c512_i32 : BitVec 32 := 512#32
  let v522 : BitVec 32 := Scalar.muli arg10 c512_i32
  let v523 : Index := Scalar.indexCast v522
  let c0_736 : Index := 0#32
  ![v523.toNat, 0]
def k0_off6 (k0_t3 : Fin k0_t3_loop.trips) : Fin 2 → Nat :=
  let c0_i32_140 : BitVec 32 := 0#32
  let c1_i32_142 : BitVec 32 := 1#32
  let arg10 : BitVec 32 := Scf.iv c0_i32_140 c1_i32_142 k0_t3
  let c512_i32 : BitVec 32 := 512#32
  let v522 : BitVec 32 := Scalar.muli arg10 c512_i32
  let v533 : Index := Scalar.indexCast v522
  let c0_747 : Index := 0#32
  ![v533.toNat, 0]
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_169 : BitVec 32 := 1#32
  let v139 : BitVec 32 := Scalar.muli v13 c1_i32_169
  let v140 : BitVec 32 := Scalar.addi c0_i32_170 v139
  v140.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v143 : BitVec 32 := Scalar.muli v24 c1_i32_178
  let v144 : BitVec 32 := Scalar.addi c0_i32_179 v143
  v144.toNat
@[reducible] def k0_t4_loop : Scf.Loop 32 :=
  let c0_i32_186 : BitVec 32 := 0#32
  let c8_i32_187 : BitVec 32 := 8#32
  let v153 : BitVec 32 := Scalar.addi c0_i32_186 c8_i32_187
  let c1_i32_188 : BitVec 32 := 1#32
  ⟨c0_i32_186, v153, c1_i32_188⟩
def k0_off7 (k0_t4 : Fin k0_t4_loop.trips) : Fin 2 → Nat :=
  let c0_i32_186 : BitVec 32 := 0#32
  let c1_i32_188 : BitVec 32 := 1#32
  let arg10 : BitVec 32 := Scf.iv c0_i32_186 c1_i32_188 k0_t4
  let c512_i32 : BitVec 32 := 512#32
  let v522 : BitVec 32 := Scalar.muli arg10 c512_i32
  let v523 : Index := Scalar.indexCast v522
  let c0_736 : Index := 0#32
  ![v523.toNat, 0]
def k0_off8 (k0_t4 : Fin k0_t4_loop.trips) : Fin 2 → Nat :=
  let c0_i32_186 : BitVec 32 := 0#32
  let c1_i32_188 : BitVec 32 := 1#32
  let arg10 : BitVec 32 := Scf.iv c0_i32_186 c1_i32_188 k0_t4
  let c512_i32 : BitVec 32 := 512#32
  let v522 : BitVec 32 := Scalar.muli arg10 c512_i32
  let v533 : Index := Scalar.indexCast v522
  let c0_747 : Index := 0#32
  ![v533.toNat, 0]
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v170 : BitVec 32 := Scalar.muli v13 c1_i32_215
  let v171 : BitVec 32 := Scalar.addi c0_i32_216 v170
  v171.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_224 : BitVec 32 := 1#32
  let v174 : BitVec 32 := Scalar.muli v24 c1_i32_224
  let v175 : BitVec 32 := Scalar.addi c0_i32_225 v174
  v175.toNat
@[reducible] def k0_t5_loop : Scf.Loop 32 :=
  let c0_i32_232 : BitVec 32 := 0#32
  let c8_i32_233 : BitVec 32 := 8#32
  let v184 : BitVec 32 := Scalar.addi c0_i32_232 c8_i32_233
  let c1_i32_234 : BitVec 32 := 1#32
  ⟨c0_i32_232, v184, c1_i32_234⟩
def k0_off9 (k0_t5 : Fin k0_t5_loop.trips) : Fin 2 → Nat :=
  let c0_i32_232 : BitVec 32 := 0#32
  let c1_i32_234 : BitVec 32 := 1#32
  let arg10 : BitVec 32 := Scf.iv c0_i32_232 c1_i32_234 k0_t5
  let c512_i32 : BitVec 32 := 512#32
  let v522 : BitVec 32 := Scalar.muli arg10 c512_i32
  let v523 : Index := Scalar.indexCast v522
  let c0_736 : Index := 0#32
  ![v523.toNat, 0]
def k0_off10 (k0_t5 : Fin k0_t5_loop.trips) : Fin 2 → Nat :=
  let c0_i32_232 : BitVec 32 := 0#32
  let c1_i32_234 : BitVec 32 := 1#32
  let arg10 : BitVec 32 := Scf.iv c0_i32_232 c1_i32_234 k0_t5
  let c512_i32 : BitVec 32 := 512#32
  let v522 : BitVec 32 := Scalar.muli arg10 c512_i32
  let v533 : Index := Scalar.indexCast v522
  let c0_747 : Index := 0#32
  ![v533.toNat, 0]
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_261 : BitVec 32 := 1#32
  let v201 : BitVec 32 := Scalar.muli v13 c1_i32_261
  let v202 : BitVec 32 := Scalar.addi c0_i32_262 v201
  v202.toNat
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_270 : BitVec 32 := 1#32
  let v205 : BitVec 32 := Scalar.muli v24 c1_i32_270
  let v206 : BitVec 32 := Scalar.addi c0_i32_271 v205
  v206.toNat
@[reducible] def k0_t6_loop : Scf.Loop 32 :=
  let c0_i32_278 : BitVec 32 := 0#32
  let c8_i32_279 : BitVec 32 := 8#32
  let v215 : BitVec 32 := Scalar.addi c0_i32_278 c8_i32_279
  let c1_i32_280 : BitVec 32 := 1#32
  ⟨c0_i32_278, v215, c1_i32_280⟩
def k0_off11 (k0_t6 : Fin k0_t6_loop.trips) : Fin 2 → Nat :=
  let c0_i32_278 : BitVec 32 := 0#32
  let c1_i32_280 : BitVec 32 := 1#32
  let arg10 : BitVec 32 := Scf.iv c0_i32_278 c1_i32_280 k0_t6
  let c512_i32 : BitVec 32 := 512#32
  let v522 : BitVec 32 := Scalar.muli arg10 c512_i32
  let v523 : Index := Scalar.indexCast v522
  let c0_736 : Index := 0#32
  ![v523.toNat, 0]
def k0_off12 (k0_t6 : Fin k0_t6_loop.trips) : Fin 2 → Nat :=
  let c0_i32_278 : BitVec 32 := 0#32
  let c1_i32_280 : BitVec 32 := 1#32
  let arg10 : BitVec 32 := Scf.iv c0_i32_278 c1_i32_280 k0_t6
  let c512_i32 : BitVec 32 := 512#32
  let v522 : BitVec 32 := Scalar.muli arg10 c512_i32
  let v533 : Index := Scalar.indexCast v522
  let c0_747 : Index := 0#32
  ![v533.toNat, 0]
def k0_dev14 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_307 : BitVec 32 := 1#32
  let v232 : BitVec 32 := Scalar.muli v13 c1_i32_307
  let v233 : BitVec 32 := Scalar.addi c0_i32_308 v232
  v233.toNat
def k0_dev15 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_316 : BitVec 32 := 1#32
  let v236 : BitVec 32 := Scalar.muli v24 c1_i32_316
  let v237 : BitVec 32 := Scalar.addi c0_i32_317 v236
  v237.toNat
@[reducible] def k0_t7_loop : Scf.Loop 32 :=
  let c0_i32_324 : BitVec 32 := 0#32
  let c8_i32_325 : BitVec 32 := 8#32
  let v246 : BitVec 32 := Scalar.addi c0_i32_324 c8_i32_325
  let c1_i32_326 : BitVec 32 := 1#32
  ⟨c0_i32_324, v246, c1_i32_326⟩
def k0_off13 (k0_t7 : Fin k0_t7_loop.trips) : Fin 2 → Nat :=
  let c0_i32_324 : BitVec 32 := 0#32
  let c1_i32_326 : BitVec 32 := 1#32
  let arg10 : BitVec 32 := Scf.iv c0_i32_324 c1_i32_326 k0_t7
  let c512_i32 : BitVec 32 := 512#32
  let v522 : BitVec 32 := Scalar.muli arg10 c512_i32
  let v523 : Index := Scalar.indexCast v522
  let c0_736 : Index := 0#32
  ![v523.toNat, 0]
def k0_off14 (k0_t7 : Fin k0_t7_loop.trips) : Fin 2 → Nat :=
  let c0_i32_324 : BitVec 32 := 0#32
  let c1_i32_326 : BitVec 32 := 1#32
  let arg10 : BitVec 32 := Scf.iv c0_i32_324 c1_i32_326 k0_t7
  let c512_i32 : BitVec 32 := 512#32
  let v522 : BitVec 32 := Scalar.muli arg10 c512_i32
  let v533 : Index := Scalar.indexCast v522
  let c0_747 : Index := 0#32
  ![v533.toNat, 0]
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v263 : BitVec 32 := Scalar.muli v13 c1_i32_353
  let v264 : BitVec 32 := Scalar.addi c0_i32_354 v263
  v264.toNat
def k0_dev17 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_362 : BitVec 32 := 1#32
  let v267 : BitVec 32 := Scalar.muli v24 c1_i32_362
  let v268 : BitVec 32 := Scalar.addi c0_i32_363 v267
  v268.toNat
@[reducible] def k0_t8_loop : Scf.Loop 32 :=
  let c0_i32_370 : BitVec 32 := 0#32
  let c8_i32_371 : BitVec 32 := 8#32
  let v277 : BitVec 32 := Scalar.addi c0_i32_370 c8_i32_371
  let c1_i32_372 : BitVec 32 := 1#32
  ⟨c0_i32_370, v277, c1_i32_372⟩
def k0_off15 (k0_t8 : Fin k0_t8_loop.trips) : Fin 2 → Nat :=
  let c0_i32_370 : BitVec 32 := 0#32
  let c1_i32_372 : BitVec 32 := 1#32
  let arg10 : BitVec 32 := Scf.iv c0_i32_370 c1_i32_372 k0_t8
  let c512_i32 : BitVec 32 := 512#32
  let v522 : BitVec 32 := Scalar.muli arg10 c512_i32
  let v523 : Index := Scalar.indexCast v522
  let c0_736 : Index := 0#32
  ![v523.toNat, 0]
def k0_off16 (k0_t8 : Fin k0_t8_loop.trips) : Fin 2 → Nat :=
  let c0_i32_370 : BitVec 32 := 0#32
  let c1_i32_372 : BitVec 32 := 1#32
  let arg10 : BitVec 32 := Scf.iv c0_i32_370 c1_i32_372 k0_t8
  let c512_i32 : BitVec 32 := 512#32
  let v522 : BitVec 32 := Scalar.muli arg10 c512_i32
  let v533 : Index := Scalar.indexCast v522
  let c0_747 : Index := 0#32
  ![v533.toNat, 0]
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_399 : BitVec 32 := 1#32
  let v294 : BitVec 32 := Scalar.muli v13 c1_i32_399
  let v295 : BitVec 32 := Scalar.addi c0_i32_400 v294
  v295.toNat
def k0_dev19 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_408 : BitVec 32 := 1#32
  let v298 : BitVec 32 := Scalar.muli v24 c1_i32_408
  let v299 : BitVec 32 := Scalar.addi c0_i32_409 v298
  v299.toNat
@[reducible] def k0_t9_loop : Scf.Loop 32 :=
  let c0_i32_416 : BitVec 32 := 0#32
  let c8_i32_417 : BitVec 32 := 8#32
  let v308 : BitVec 32 := Scalar.addi c0_i32_416 c8_i32_417
  let c1_i32_418 : BitVec 32 := 1#32
  ⟨c0_i32_416, v308, c1_i32_418⟩
def k0_off17 (k0_t9 : Fin k0_t9_loop.trips) : Fin 2 → Nat :=
  let c0_i32_416 : BitVec 32 := 0#32
  let c1_i32_418 : BitVec 32 := 1#32
  let arg10 : BitVec 32 := Scf.iv c0_i32_416 c1_i32_418 k0_t9
  let c512_i32 : BitVec 32 := 512#32
  let v522 : BitVec 32 := Scalar.muli arg10 c512_i32
  let v523 : Index := Scalar.indexCast v522
  let c0_736 : Index := 0#32
  ![v523.toNat, 0]
def k0_off18 (k0_t9 : Fin k0_t9_loop.trips) : Fin 2 → Nat :=
  let c0_i32_416 : BitVec 32 := 0#32
  let c1_i32_418 : BitVec 32 := 1#32
  let arg10 : BitVec 32 := Scf.iv c0_i32_416 c1_i32_418 k0_t9
  let c512_i32 : BitVec 32 := 512#32
  let v522 : BitVec 32 := Scalar.muli arg10 c512_i32
  let v533 : Index := Scalar.indexCast v522
  let c0_747 : Index := 0#32
  ![v533.toNat, 0]
def k0_dev20 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_445 : BitVec 32 := 1#32
  let v325 : BitVec 32 := Scalar.muli v13 c1_i32_445
  let v326 : BitVec 32 := Scalar.addi c0_i32_446 v325
  v326.toNat
def k0_dev21 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_454 : BitVec 32 := 1#32
  let v329 : BitVec 32 := Scalar.muli v24 c1_i32_454
  let v330 : BitVec 32 := Scalar.addi c0_i32_455 v329
  v330.toNat
@[reducible] def k0_t10_loop : Scf.Loop 32 :=
  let c0_i32_462 : BitVec 32 := 0#32
  let c8_i32_463 : BitVec 32 := 8#32
  let v339 : BitVec 32 := Scalar.addi c0_i32_462 c8_i32_463
  let c1_i32_464 : BitVec 32 := 1#32
  ⟨c0_i32_462, v339, c1_i32_464⟩
def k0_off19 (k0_t10 : Fin k0_t10_loop.trips) : Fin 2 → Nat :=
  let c0_i32_462 : BitVec 32 := 0#32
  let c1_i32_464 : BitVec 32 := 1#32
  let arg10 : BitVec 32 := Scf.iv c0_i32_462 c1_i32_464 k0_t10
  let c512_i32 : BitVec 32 := 512#32
  let v522 : BitVec 32 := Scalar.muli arg10 c512_i32
  let v523 : Index := Scalar.indexCast v522
  let c0_736 : Index := 0#32
  ![v523.toNat, 0]
def k0_off20 (k0_t10 : Fin k0_t10_loop.trips) : Fin 2 → Nat :=
  let c0_i32_462 : BitVec 32 := 0#32
  let c1_i32_464 : BitVec 32 := 1#32
  let arg10 : BitVec 32 := Scf.iv c0_i32_462 c1_i32_464 k0_t10
  let c512_i32 : BitVec 32 := 512#32
  let v522 : BitVec 32 := Scalar.muli arg10 c512_i32
  let v533 : Index := Scalar.indexCast v522
  let c0_747 : Index := 0#32
  ![v533.toNat, 0]
def k0_dev22 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_491 : BitVec 32 := 1#32
  let v356 : BitVec 32 := Scalar.muli v13 c1_i32_491
  let v357 : BitVec 32 := Scalar.addi c0_i32_492 v356
  v357.toNat
def k0_dev23 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_500 : BitVec 32 := 1#32
  let v360 : BitVec 32 := Scalar.muli v24 c1_i32_500
  let v361 : BitVec 32 := Scalar.addi c0_i32_501 v360
  v361.toNat
@[reducible] def k0_t11_loop : Scf.Loop 32 :=
  let c0_i32_508 : BitVec 32 := 0#32
  let c8_i32_509 : BitVec 32 := 8#32
  let v370 : BitVec 32 := Scalar.addi c0_i32_508 c8_i32_509
  let c1_i32_510 : BitVec 32 := 1#32
  ⟨c0_i32_508, v370, c1_i32_510⟩
def k0_off21 (k0_t11 : Fin k0_t11_loop.trips) : Fin 2 → Nat :=
  let c0_i32_508 : BitVec 32 := 0#32
  let c1_i32_510 : BitVec 32 := 1#32
  let arg10 : BitVec 32 := Scf.iv c0_i32_508 c1_i32_510 k0_t11
  let c512_i32 : BitVec 32 := 512#32
  let v522 : BitVec 32 := Scalar.muli arg10 c512_i32
  let v523 : Index := Scalar.indexCast v522
  let c0_736 : Index := 0#32
  ![v523.toNat, 0]
def k0_off22 (k0_t11 : Fin k0_t11_loop.trips) : Fin 2 → Nat :=
  let c0_i32_508 : BitVec 32 := 0#32
  let c1_i32_510 : BitVec 32 := 1#32
  let arg10 : BitVec 32 := Scf.iv c0_i32_508 c1_i32_510 k0_t11
  let c512_i32 : BitVec 32 := 512#32
  let v522 : BitVec 32 := Scalar.muli arg10 c512_i32
  let v533 : Index := Scalar.indexCast v522
  let c0_747 : Index := 0#32
  ![v533.toNat, 0]
def k0_dev24 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_537 : BitVec 32 := 1#32
  let v387 : BitVec 32 := Scalar.muli v13 c1_i32_537
  let v388 : BitVec 32 := Scalar.addi c0_i32_538 v387
  v388.toNat
def k0_dev25 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_546 : BitVec 32 := 1#32
  let v391 : BitVec 32 := Scalar.muli v24 c1_i32_546
  let v392 : BitVec 32 := Scalar.addi c0_i32_547 v391
  v392.toNat
@[reducible] def k0_t12_loop : Scf.Loop 32 :=
  let c0_i32_554 : BitVec 32 := 0#32
  let c8_i32_555 : BitVec 32 := 8#32
  let v401 : BitVec 32 := Scalar.addi c0_i32_554 c8_i32_555
  let c1_i32_556 : BitVec 32 := 1#32
  ⟨c0_i32_554, v401, c1_i32_556⟩
def k0_off23 (k0_t12 : Fin k0_t12_loop.trips) : Fin 2 → Nat :=
  let c0_i32_554 : BitVec 32 := 0#32
  let c1_i32_556 : BitVec 32 := 1#32
  let arg10 : BitVec 32 := Scf.iv c0_i32_554 c1_i32_556 k0_t12
  let c512_i32 : BitVec 32 := 512#32
  let v522 : BitVec 32 := Scalar.muli arg10 c512_i32
  let v523 : Index := Scalar.indexCast v522
  let c0_736 : Index := 0#32
  ![v523.toNat, 0]
def k0_off24 (k0_t12 : Fin k0_t12_loop.trips) : Fin 2 → Nat :=
  let c0_i32_554 : BitVec 32 := 0#32
  let c1_i32_556 : BitVec 32 := 1#32
  let arg10 : BitVec 32 := Scf.iv c0_i32_554 c1_i32_556 k0_t12
  let c512_i32 : BitVec 32 := 512#32
  let v522 : BitVec 32 := Scalar.muli arg10 c512_i32
  let v533 : Index := Scalar.indexCast v522
  let c0_747 : Index := 0#32
  ![v533.toNat, 0]
def k0_dev26 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_583 : BitVec 32 := 1#32
  let v418 : BitVec 32 := Scalar.muli v13 c1_i32_583
  let v419 : BitVec 32 := Scalar.addi c0_i32_584 v418
  v419.toNat
def k0_dev27 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_592 : BitVec 32 := 1#32
  let v422 : BitVec 32 := Scalar.muli v24 c1_i32_592
  let v423 : BitVec 32 := Scalar.addi c0_i32_593 v422
  v423.toNat
@[reducible] def k0_t13_loop : Scf.Loop 32 :=
  let c0_i32_600 : BitVec 32 := 0#32
  let c8_i32_601 : BitVec 32 := 8#32
  let v432 : BitVec 32 := Scalar.addi c0_i32_600 c8_i32_601
  let c1_i32_602 : BitVec 32 := 1#32
  ⟨c0_i32_600, v432, c1_i32_602⟩
def k0_off25 (k0_t13 : Fin k0_t13_loop.trips) : Fin 2 → Nat :=
  let c0_i32_600 : BitVec 32 := 0#32
  let c1_i32_602 : BitVec 32 := 1#32
  let arg10 : BitVec 32 := Scf.iv c0_i32_600 c1_i32_602 k0_t13
  let c512_i32 : BitVec 32 := 512#32
  let v522 : BitVec 32 := Scalar.muli arg10 c512_i32
  let v523 : Index := Scalar.indexCast v522
  let c0_736 : Index := 0#32
  ![v523.toNat, 0]
def k0_off26 (k0_t13 : Fin k0_t13_loop.trips) : Fin 2 → Nat :=
  let c0_i32_600 : BitVec 32 := 0#32
  let c1_i32_602 : BitVec 32 := 1#32
  let arg10 : BitVec 32 := Scf.iv c0_i32_600 c1_i32_602 k0_t13
  let c512_i32 : BitVec 32 := 512#32
  let v522 : BitVec 32 := Scalar.muli arg10 c512_i32
  let v533 : Index := Scalar.indexCast v522
  let c0_747 : Index := 0#32
  ![v533.toNat, 0]
def k0_dev28 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_629 : BitVec 32 := 1#32
  let v449 : BitVec 32 := Scalar.muli v13 c1_i32_629
  let v450 : BitVec 32 := Scalar.addi c0_i32_630 v449
  v450.toNat
def k0_dev29 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_638 : BitVec 32 := 1#32
  let v453 : BitVec 32 := Scalar.muli v24 c1_i32_638
  let v454 : BitVec 32 := Scalar.addi c0_i32_639 v453
  v454.toNat
@[reducible] def k0_t14_loop : Scf.Loop 32 :=
  let c0_i32_646 : BitVec 32 := 0#32
  let c8_i32_647 : BitVec 32 := 8#32
  let v463 : BitVec 32 := Scalar.addi c0_i32_646 c8_i32_647
  let c1_i32_648 : BitVec 32 := 1#32
  ⟨c0_i32_646, v463, c1_i32_648⟩
def k0_off27 (k0_t14 : Fin k0_t14_loop.trips) : Fin 2 → Nat :=
  let c0_i32_646 : BitVec 32 := 0#32
  let c1_i32_648 : BitVec 32 := 1#32
  let arg10 : BitVec 32 := Scf.iv c0_i32_646 c1_i32_648 k0_t14
  let c512_i32 : BitVec 32 := 512#32
  let v522 : BitVec 32 := Scalar.muli arg10 c512_i32
  let v523 : Index := Scalar.indexCast v522
  let c0_736 : Index := 0#32
  ![v523.toNat, 0]
def k0_off28 (k0_t14 : Fin k0_t14_loop.trips) : Fin 2 → Nat :=
  let c0_i32_646 : BitVec 32 := 0#32
  let c1_i32_648 : BitVec 32 := 1#32
  let arg10 : BitVec 32 := Scf.iv c0_i32_646 c1_i32_648 k0_t14
  let c512_i32 : BitVec 32 := 512#32
  let v522 : BitVec 32 := Scalar.muli arg10 c512_i32
  let v533 : Index := Scalar.indexCast v522
  let c0_747 : Index := 0#32
  ![v533.toNat, 0]
def k0_dev30 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_675 : BitVec 32 := 1#32
  let v480 : BitVec 32 := Scalar.muli v13 c1_i32_675
  let v481 : BitVec 32 := Scalar.addi c0_i32_676 v480
  v481.toNat
def k0_dev31 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_684 : BitVec 32 := 1#32
  let v484 : BitVec 32 := Scalar.muli v24 c1_i32_684
  let v485 : BitVec 32 := Scalar.addi c0_i32_685 v484
  v485.toNat
@[reducible] def k0_t15_loop : Scf.Loop 32 :=
  let c0_i32_692 : BitVec 32 := 0#32
  let c8_i32_693 : BitVec 32 := 8#32
  let v494 : BitVec 32 := Scalar.addi c0_i32_692 c8_i32_693
  let c1_i32_694 : BitVec 32 := 1#32
  ⟨c0_i32_692, v494, c1_i32_694⟩
def k0_off29 (k0_t15 : Fin k0_t15_loop.trips) : Fin 2 → Nat :=
  let c0_i32_692 : BitVec 32 := 0#32
  let c1_i32_694 : BitVec 32 := 1#32
  let arg10 : BitVec 32 := Scf.iv c0_i32_692 c1_i32_694 k0_t15
  let c512_i32 : BitVec 32 := 512#32
  let v522 : BitVec 32 := Scalar.muli arg10 c512_i32
  let v523 : Index := Scalar.indexCast v522
  let c0_736 : Index := 0#32
  ![v523.toNat, 0]
def k0_off30 (k0_t15 : Fin k0_t15_loop.trips) : Fin 2 → Nat :=
  let c0_i32_692 : BitVec 32 := 0#32
  let c1_i32_694 : BitVec 32 := 1#32
  let arg10 : BitVec 32 := Scf.iv c0_i32_692 c1_i32_694 k0_t15
  let c512_i32 : BitVec 32 := 512#32
  let v522 : BitVec 32 := Scalar.muli arg10 c512_i32
  let v533 : Index := Scalar.indexCast v522
  let c0_747 : Index := 0#32
  ![v533.toNat, 0]
def k0_dev32 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_721 : BitVec 32 := 1#32
  let v511 : BitVec 32 := Scalar.muli v13 c1_i32_721
  let v512 : BitVec 32 := Scalar.addi c0_i32_722 v511
  v512.toNat
@[reducible] def k0_t16_loop : Scf.Loop 32 :=
  let c0_i32_723 : BitVec 32 := 0#32
  let c8_i32_724 : BitVec 32 := 8#32
  let v513 : BitVec 32 := Scalar.addi c0_i32_723 c8_i32_724
  let c1_i32_725 : BitVec 32 := 1#32
  ⟨c0_i32_723, v513, c1_i32_725⟩
def k0_off31 (k0_t16 : Fin k0_t16_loop.trips) : Fin 2 → Nat :=
  let c0_i32_723 : BitVec 32 := 0#32
  let c1_i32_725 : BitVec 32 := 1#32
  let arg10 : BitVec 32 := Scf.iv c0_i32_723 c1_i32_725 k0_t16
  let c512_i32 : BitVec 32 := 512#32
  let v522 : BitVec 32 := Scalar.muli arg10 c512_i32
  let v523 : Index := Scalar.indexCast v522
  let c0_736 : Index := 0#32
  ![v523.toNat, 0]
def k0_off32 (k0_t16 : Fin k0_t16_loop.trips) : Fin 2 → Nat :=
  let c0_i32_723 : BitVec 32 := 0#32
  let c1_i32_725 : BitVec 32 := 1#32
  let arg10 : BitVec 32 := Scf.iv c0_i32_723 c1_i32_725 k0_t16
  let c512_i32 : BitVec 32 := 512#32
  let v522 : BitVec 32 := Scalar.muli arg10 c512_i32
  let v533 : Index := Scalar.indexCast v522
  let c0_747 : Index := 0#32
  ![v533.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S65536x256 : Shape := ⟨2, ![65536, 256]⟩
abbrev S256x65536 : Shape := ⟨2, ![256, 65536]⟩
abbrev S65536x65536 : Shape := ⟨2, ![65536, 65536]⟩
abbrev S_ : Shape := ⟨0, ![]⟩
abbrev S65536 : Shape := ⟨1, ![65536]⟩
abbrev S65536x1 : Shape := ⟨2, ![65536, 1]⟩

abbrev nBuf : Space → Nat
  | .hbm => 22
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x65536, .f32⟩
  | .hbm, ⟨4, _⟩ => ⟨S65536x65536, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S65536x65536, .f32⟩
  | .hbm, ⟨9, _⟩ => ⟨S65536x65536, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S65536x65536, .f32⟩
  | .hbm, ⟨14, _⟩ => ⟨S65536x65536, .f32⟩
  | .hbm, ⟨15, _⟩ => ⟨S65536x65536, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S65536x65536, .f32⟩
  | .hbm, ⟨20, _⟩ => ⟨S65536x65536, .f32⟩
  | .hbm, ⟨21, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Prog.lean ====
/-
The kernel's straight-line text as ONE uniform program: a prologue, fifteen hops of one shape, and a last hop
without a transfer. The printed kernel is cut into parts at arbitrary statements and repeats the same hop fifteen
times under different names; `body_eq` says that it is the uniform program.
-/
module

public import proofs.«01_k».proof.Proof.Gen.KernelIdeal.Skeleton
public import Idealize.ShloMosaic.Lib.Pipeline.Regions

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-! ## The buffers and semaphores -/

abbrev qM : Memref sig .tc .vmem S4096x256 .f32 := Memref.whole cc0_stg0_0
abbrev kM : Memref sig .tc .vmem S4096x256 .f32 := Memref.whole cc0_stg1_0
abbrev vM : Memref sig .tc .vmem S4096x256 .f32 := Memref.whole cc0_stg2_0
abbrev oM : Memref sig .tc .vmem S4096x256 .f32 := Memref.whole cc0_stg3_0
abbrev cM : Memref sig .tc .vmem S2x2x4096x256 .f32 := Memref.whole cc0_scratch0
abbrev mM : Memref sig .tc .vmem S4096x1 .f32 := Memref.whole cc0_scratch1
abbrev lM : Memref sig .tc .vmem S4096x1 .f32 := Memref.whole cc0_scratch2

theorem slot_inb (s : Fin 2) : ∀ a, (![s.val, 0, 0, 0] : Fin 4 → Nat) a + S1x2x4096x256.size a ≤ S2x2x4096x256.size a := by
  revert s; decide
theorem half_inb (s j : Fin 2) : ∀ a, (![s.val, j.val, 0, 0] : Fin 4 → Nat) a + S1x1x4096x256.size a ≤ S2x2x4096x256.size a := by
  revert s j; decide
theorem sem_inb (s : Fin 2) : ∀ a, (![s.val] : Fin 1 → Nat) a + S1.size a ≤ S2.size a := by
  revert s; decide

/-- Slot `s` of the communication buffer, as the transfers name it. -/
abbrev slotM (s : Fin 2) : Memref sig .tc .vmem S2x4096x256 .f32 :=
  (cM.slice (Rect.unit (s := S2x2x4096x256) ![s.val, 0, 0, 0] S1x2x4096x256.size (slot_inb s)) (fun _ => rfl)).squeeze S2x4096x256 squeezes_S1x2x4096x256_S2x4096x256
abbrev sendS (s : Fin 2) : DmaSems sig S_ := (cc0_scratch3.slice (Rect.unit (s := S2) ![s.val] S1.size (sem_inb s))).squeeze S_ squeezes_S1_S_
abbrev recvS (s : Fin 2) : DmaSems sig S_ := (cc0_scratch4.slice (Rect.unit (s := S2) ![s.val] S1.size (sem_inb s))).squeeze S_ squeezes_S1_S_
abbrev credS (s : Fin 2) : Sems sig S_ := (cc0_scratch5.slice (Rect.unit (s := S2) ![s.val] S1.size (sem_inb s))).squeeze S_ squeezes_S1_S_
abbrev barS : Sems sig S_ := SemArray.scalar (sig.barrier 0 rfl)

/-- The half of slot `s` holding the keys (`j = 0`) or the values (`j = 1`), as the vector loads name it. -/
abbrev halfR (s j : Fin 2) : Rect S2x2x4096x256 := Rect.unit (s := S2x2x4096x256) ![s.val, j.val, 0, 0] S1x1x4096x256.size (half_inb s j)
abbrev rowsR (t : Fin k0_t1_loop.trips) : Rect S4096x256 := Rect.unit (s := S4096x256) (k0_off1 t) S512x256.size (k0_off1_inb t)
abbrev colR (t : Fin k0_t1_loop.trips) : Rect S4096x1 := Rect.unit (s := S4096x1) (k0_off2 t) S512x1.size (k0_off2_inb t)
abbrev allR : Rect S4096x256 := Rect.unit (s := S4096x256) ![0, 0] S4096x256.size inb_S4096x256_S4096x256_0_0
abbrev allC : Rect S4096x1 := Rect.unit (s := S4096x1) ![0, 0] S4096x1.size inb_S4096x1_S4096x1_0_0

/-- The device a transfer is addressed to (the right neighbour) and the one a credit goes to (the left). -/
abbrev toR (d0 : Dev nD) : Dev nD := ⟨k0_dev3 d0, k0_dev3_lt d0⟩
abbrev toL (d0 : Dev nD) : Dev nD := ⟨k0_dev4 d0, k0_dev4_lt d0⟩

/-- The slot hop `h` reads and sends. -/
abbrev slot (h : ℕ) : Fin 2 := ⟨h % 2, Nat.mod_lt _ (by decide)⟩

/-! ## The program -/

/-- One tile of 512 rows: the online softmax step against slot `s`. -/
def tileBody (s : Fin 2) : Fin k0_t1_loop.trips → Unit → Prog (TpuEff nD τ sig (Elt F) Λ₀ .tc) Unit := fun t _ => do
  let q : Vec F S512x256 .f32 ← Prog.lift (.load qM (rowsR t).toLoadRect (View.loadsAt_vmem h_S512x256))
  let k : Vec F S1x1x4096x256 .f32 ← Prog.lift (.load cM (halfR s 0).toLoadRect (View.loadsAt_vmem h_S1x1x4096x256))
  let v : Vec F S1x1x4096x256 .f32 ← Prog.lift (.load cM (halfR s 1).toLoadRect (View.loadsAt_vmem h_S1x1x4096x256))
  let m : Vec F S512x1 .f32 ← Prog.lift (.load mM (colR t).toLoadRect (View.loadsAt_vmem h_S512x1))
  let l : Vec F S512x1 .f32 ← Prog.lift (.load lM (colR t).toLoadRect (View.loadsAt_vmem h_S512x1))
  let o : Vec F S512x256 .f32 ← Prog.lift (.load oM (rowsR t).toLoadRect (View.loadsAt_vmem h_S512x256))
  let _ : Vec F S512x1 .f32 ← Prog.lift (.load mM (colR t).toLoadRect (View.loadsAt_vmem h_S512x1))
  Prog.lift (.store mM (colR t) (k0_pay8 q k m) Finset.univ (View.stores_vmem_bits_univ h_S512x1 rfl) (.inl rfl))
  let _ : Vec F S512x1 .f32 ← Prog.lift (.load lM (colR t).toLoadRect (View.loadsAt_vmem h_S512x1))
  Prog.lift (.store lM (colR t) (k0_pay119 (k0_pay6 q k m l)) Finset.univ (View.stores_vmem_bits_univ h_S512x1 rfl) (.inl rfl))
  let _ : Vec F S512x256 .f32 ← Prog.lift (.load oM (rowsR t).toLoadRect (View.loadsAt_vmem h_S512x256))
  Prog.lift (.store oM (rowsR t) (k0_pay7 q k v m o) Finset.univ (View.stores_vmem_bits_univ h_S512x256 rfl) (.inl rfl))
  pure ⟨⟩

/-- The eight tiles of one hop. -/
def tilesP (s : Fin 2) : Prog (TpuEff nD τ sig (Elt F) Λ₀ .tc) Unit := Scf.Loop.for k0_t1_loop k0_t1_ok ⟨⟩ (tileBody s)

/-- One hop from slot `s` to slot `t` of the right neighbour `R`: the transfer issued, the tiles computed while it
    is in flight, its two waits, the credit to the left neighbour `L`. -/
def hopP (s t : Fin 2) (R L : Dev nD) : Prog (TpuEff nD τ sig (Elt F) Λ₀ .tc) PUnit := do
  Prog.lift (.enqueueDma (slotM s) (.remote (Dev.tc R) (slotM t) (.dma (sendS s).sem)) (.dma (recvS t).sem) ((View.wordExact_bits rfl).reshape _ _) ((View.wordExact_bits rfl).reshape _ _) ⟨⟨rfl, Or.inl rfl⟩, trivial⟩)
  tilesP s
  Prog.lift (.waitDma2 (sendS s).sem (slotM t) (slotM s) ((View.wordExact_bits rfl).reshape _ _) ((View.wordExact_bits rfl).reshape _ _))
  Prog.lift (.waitDma2 (recvS t).sem (slotM s) (slotM t) ((View.wordExact_bits rfl).reshape _ _) ((View.wordExact_bits rfl).reshape _ _))
  semSignalWord L (credS s).sem 1#32

/-- The hops `hs`, each after a wait for a credit. -/
def hopsP (d0 : Dev nD) : List ℕ → Prog (TpuEff nD τ sig (Elt F) Λ₀ .tc) PUnit
  | [] => pure ⟨⟩
  | h :: hs => do
    semWaitWord (credS (slot (h + 1))).sem 1#32
    hopP (slot h) (slot (h + 1)) (toR d0) (toL d0)
    hopsP d0 hs

/-- The barrier with both neighbours. -/
def barP (d0 : Dev nD) : Prog (TpuEff nD τ sig (Elt F) Λ₀ .tc) PUnit := do
  semSignalWord (⟨k0_dev1 d0, k0_dev1_lt d0⟩ : Dev nD) barS.sem 1#32
  semSignalWord (⟨k0_dev2 d0, k0_dev2_lt d0⟩ : Dev nD) barS.sem 1#32
  semWaitWord barS.sem 2#32

/-- The own keys and values into slot 0; the running maximum, sum and accumulator at their start. -/
def initP : Prog (TpuEff nD τ sig (Elt F) Λ₀ .tc) PUnit := do
  let k : Vec F S4096x256 .f32 ← Prog.lift (.load kM allR.toLoadRect (View.loadsAt_vmem h_S4096x256))
  let _ : Vec F S1x1x4096x256 .f32 ← Prog.lift (.load cM (halfR 0 0).toLoadRect (View.loadsAt_vmem h_S1x1x4096x256))
  Prog.lift (.store cM (halfR 0 0) (k0_pay114 k) Finset.univ (View.stores_vmem_bits_univ h_S1x1x4096x256 rfl) (.inl rfl))
  let v : Vec F S4096x256 .f32 ← Prog.lift (.load vM allR.toLoadRect (View.loadsAt_vmem h_S4096x256))
  let _ : Vec F S1x1x4096x256 .f32 ← Prog.lift (.load cM (halfR 0 1).toLoadRect (View.loadsAt_vmem h_S1x1x4096x256))
  Prog.lift (.store cM (halfR 0 1) (k0_pay115 v) Finset.univ (View.stores_vmem_bits_univ h_S1x1x4096x256 rfl) (.inl rfl))
  let _ : Vec F S4096x1 .f32 ← Prog.lift (.load mM allC.toLoadRect (View.loadsAt_vmem h_S4096x1))
  Prog.lift (.store mM allC (k0_pay116 (F := F)) Finset.univ (View.stores_vmem_bits_univ h_S4096x1 rfl) (.inl rfl))
  let _ : Vec F S4096x1 .f32 ← Prog.lift (.load lM allC.toLoadRect (View.loadsAt_vmem h_S4096x1))
  Prog.lift (.store lM allC (k0_pay117 (F := F)) Finset.univ (View.stores_vmem_bits_univ h_S4096x1 rfl) (.inl rfl))
  let _ : Vec F S4096x256 .f32 ← Prog.lift (.load oM allR.toLoadRect (View.loadsAt_vmem h_S4096x256))
  Prog.lift (.store oM allR (k0_pay118 (F := F)) Finset.univ (View.stores_vmem_bits_univ h_S4096x256 rfl) (.inl rfl))

/-- The division of the accumulator by the sum. -/
def finP : Prog (TpuEff nD τ sig (Elt F) Λ₀ .tc) PUnit := do
  let o : Vec F S4096x256 .f32 ← Prog.lift (.load oM allR.toLoadRect (View.loadsAt_vmem h_S4096x256))
  let l : Vec F S4096x1 .f32 ← Prog.lift (.load lM allC.toLoadRect (View.loadsAt_vmem h_S4096x1))
  let _ : Vec F S4096x256 .f32 ← Prog.lift (.load oM allR.toLoadRect (View.loadsAt_vmem h_S4096x256))
  Prog.lift (.store oM allR (k0_pay1 o l) Finset.univ (View.stores_vmem_bits_univ h_S4096x256 rfl) (.inl rfl))

/-- The whole kernel. -/
def ringP : Prog (TpuEff nD τ sig (Elt F) Λ₀ .tc) PUnit := do
  let d0 : Dev nD ← Prog.lift .deviceId
  barP d0
  initP
  hopP (slot 0) (slot 1) (toR d0) (toL d0)
  hopsP d0 [1, 2, 3, 4, 5, 6, 7, 8, 9, 10, 11, 12, 13, 14]
  tilesP (slot 15)
  semWaitWord (credS (slot 14)).sem 1#32
  finP

/-! ## The printed kernel is that program -/

theorem tile1_eq (d0 : Dev nD) (v13 v24 : BitVec 32) :
    k0_t1_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 0 := by
  chain_rfl
theorem tile2_eq (d0 : Dev nD) (v24 : BitVec 32) :
    k0_t2_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 = tileBody 1 := by
  chain_rfl
theorem tile3_eq (d0 : Dev nD) (v13 v24 v98 : BitVec 32) :
    k0_t3_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 v98 = tileBody 0 := by
  chain_rfl
theorem tile4_eq (d0 : Dev nD) (v24 v143 c0_i32_179 : BitVec 32) :
    k0_t4_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 v143 c0_i32_179 = tileBody 1 := by
  chain_rfl
theorem tile5_eq (d0 : Dev nD) (v13 v24 : BitVec 32) :
    k0_t5_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 0 := by
  chain_rfl
theorem tile6_eq (d0 : Dev nD) (v13 v24 : BitVec 32) :
    k0_t6_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 1 := by
  chain_rfl
theorem tile7_eq (d0 : Dev nD) (v24 : BitVec 32) :
    k0_t7_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 = tileBody 0 := by
  chain_rfl
theorem tile8_eq (d0 : Dev nD) (v13 v24 : BitVec 32) :
    k0_t8_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 1 := by
  chain_rfl
theorem tile9_eq (d0 : Dev nD) (v24 : BitVec 32) :
    k0_t9_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 = tileBody 0 := by
  chain_rfl
theorem tile10_eq (d0 : Dev nD) (v13 v24 : BitVec 32) :
    k0_t10_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 1 := by
  chain_rfl
theorem tile11_eq (d0 : Dev nD) (v13 v24 c0_i32_508 : BitVec 32) :
    k0_t11_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 c0_i32_508 = tileBody 0 := by
  chain_rfl
theorem tile12_eq (d0 : Dev nD) (v24 : BitVec 32) :
    k0_t12_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 = tileBody 1 := by
  chain_rfl
theorem tile13_eq (d0 : Dev nD) (v13 v24 : BitVec 32) :
    k0_t13_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 0 := by
  chain_rfl
theorem tile14_eq (d0 : Dev nD) (v13 v24 : BitVec 32) :
    k0_t14_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v13 v24 = tileBody 1 := by
  chain_rfl
theorem tile15_eq (d0 : Dev nD) (v24 : BitVec 32) :
    k0_t15_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 d0 v24 = tileBody 0 := by
  chain_rfl
theorem tile16_eq :
    k0_t16_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5  = tileBody 1 := by
  chain_rfl

theorem body_eq : cc0_body (F := F) qM (Memref.isWhole_whole _) kM (Memref.isWhole_whole _) vM (Memref.isWhole_whole _) oM (Memref.isWhole_whole _) cM (Memref.isWhole_whole _) mM (Memref.isWhole_whole _) lM (Memref.isWhole_whole _) cc0_scratch3 cc0_scratch4 cc0_scratch5 = ringP := by
  rw [cc0_body_eq_skeleton]; unfold cc0_body_skel
  rw [k0_part39_eq_skeleton]; unfold k0_part39_skel
  simp only [k0_part39_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold k0_part17_skel  k0_part18_skel  k0_part19_skel  k0_part20_skel  k0_part21_skel  k0_part22_skel  k0_part23_skel  k0_part24_skel  k0_part25_skel  k0_part26_skel  k0_part27_skel  k0_part28_skel  k0_part29_skel  k0_part30_skel  k0_part31_skel  k0_part32_skel  k0_part33_skel  k0_part34_skel  k0_part35_skel  k0_part36_skel  k0_part37_skel  k0_part38_skel
  dsimp only
  simp only [bind_assoc, pure_bind]
  simp only [tile1_eq, tile2_eq, tile3_eq, tile4_eq, tile5_eq, tile6_eq, tile7_eq, tile8_eq, tile9_eq, tile10_eq, tile11_eq, tile12_eq, tile13_eq, tile14_eq, tile15_eq, tile16_eq]
  simp only [ringP, barP, initP, hopsP, hopP, tilesP, finP, bind_assoc, pure_bind]
  chain_rfl

end Cert.Ring

end
-- ==== Proof.Sched.lean ====
/-
The protocol of the ring: which semaphore cell is raised by whom, in which hop, handing over what.

Device `c` sends to `nxt c` and hears from `prv c`. In hop `h` (0 … 14) it sends slot `slot h` into slot
`slot (h + 1)` of `nxt c`. Every cell runs through rounds; the cells hop `h` uses are in round `h / 2` in that hop:
* the send cell of `slot h` on `c` gives `c` back the half share of the slot that the transfer read;
* the receive cell of `slot (h + 1)` on `nxt c` hands `nxt c` that slot, filled, and the mark that `c` has got past
  the credit round before, so that `nxt c` may raise the next credit;
* the credit cell of `slot h` on `prv c` is raised by `c` at the end of the hop and hands `prv c` the slot that hop
  `h + 1` of `prv c` writes (`gate (h + 1)`).
The barrier cell hands over the slot that hop 0 writes (`gate 0`).
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.ValueKit.Geometry

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's (duties `Bool`); indices are hop numbers -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring of devices -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

theorem dev1_val : ∀ c : Dev nD, k0_dev1 c = (c.val + 15) % 16 := by decide +kernel
theorem dev2_val : ∀ c : Dev nD, k0_dev2 c = (c.val + 1) % 16 := by decide +kernel
theorem dev3_val : ∀ c : Dev nD, k0_dev3 c = (c.val + 1) % 16 := by decide +kernel
theorem dev4_val : ∀ c : Dev nD, k0_dev4 c = (c.val + 15) % 16 := by decide +kernel

theorem dev1_eq (c : Dev nD) : (⟨k0_dev1 c, k0_dev1_lt c⟩ : Dev nD) = prv c := Fin.ext (dev1_val c)
theorem dev2_eq (c : Dev nD) : (⟨k0_dev2 c, k0_dev2_lt c⟩ : Dev nD) = nxt c := Fin.ext (dev2_val c)
theorem toR_eq (c : Dev nD) : toR c = nxt c := Fin.ext (dev3_val c)
theorem toL_eq (c : Dev nD) : toL c = prv c := Fin.ext (dev4_val c)

def ring : Dev nD ≃ Dev nD := ⟨nxt, prv, prv_nxt, nxt_prv⟩

/-- The device whose keys and values `c` reads in hop `h`: `h` places before it. -/
def back (c : Dev nD) : ℕ → Dev nD
  | 0 => c
  | h + 1 => prv (back c h)

theorem back_nxt (c : Dev nD) (h : ℕ) : back (nxt c) (h + 1) = back c h := by
  induction h with
  | zero => exact prv_nxt c
  | succ h ih => show prv (back (nxt c) (h + 1)) = _; rw [ih]; rfl

/-! ## Slots -/

theorem slot_add_two (h : ℕ) : slot (h + 2) = slot h := Fin.ext (by simp [slot])
theorem slot_ne (h : ℕ) : slot h ≠ slot (h + 1) := fun e => by have := congrArg Fin.val e; simp only [slot] at this; omega

/-! ## Cells -/

abbrev barCell (c : Dev nD) : GSem nD τ sig := ((c : Thread nD τ), .reg barS.sem)
abbrev sendCell (c : Dev nD) (s : Fin 2) : GSem nD τ sig := ((c : Thread nD τ), .dma (sendS s).sem)
abbrev recvCell (c : Dev nD) (s : Fin 2) : GSem nD τ sig := ((c : Thread nD τ), .dma (recvS s).sem)
abbrev credCell (c : Dev nD) (s : Fin 2) : GSem nD τ sig := ((c : Thread nD τ), .reg (credS s).sem)

/-- The semaphores by what they are for. -/
inductive Kd
  | bar | send (s : Fin 2) | recv (s : Fin 2) | cred (s : Fin 2) | other
  deriving DecidableEq

/-- What a semaphore is for. -/
def kd (sm : SemLoc sig) : Kd :=
  if sm = .reg barS.sem then .bar
  else if sm = .dma (sendS 0).sem then .send 0 else if sm = .dma (sendS 1).sem then .send 1
  else if sm = .dma (recvS 0).sem then .recv 0 else if sm = .dma (recvS 1).sem then .recv 1
  else if sm = .reg (credS 0).sem then .cred 0 else if sm = .reg (credS 1).sem then .cred 1
  else .other

theorem kd_bar : kd (.reg barS.sem) = .bar := by decide
theorem kd_send (s : Fin 2) : kd (.dma (sendS s).sem) = .send s := by revert s; decide
theorem kd_recv (s : Fin 2) : kd (.dma (recvS s).sem) = .recv s := by revert s; decide
theorem kd_cred (s : Fin 2) : kd (.reg (credS s).sem) = .cred s := by revert s; decide

/-- The elements one transfer moves, as the semaphores count them. -/
abbrev N : ℕ := (slotM 0).view.dmaCredit
theorem N_pos : 0 < N := View.dmaCredit_pos _ (by decide)

/-! ## Contents -/

/-- Slot `s` of device `c`'s communication buffer, held with share `q` at `f`. -/
def slotPts (c : Dev nD) (s : Fin 2) (q : PosShare TreeShare) (f : (cc0_scratch0 : Ref sig .tc).ty.Contents (Elt F)) : sProp 𝕄 :=
  (slotM s).view.loc (c : Thread nD τ) ↦[(slotM s).view.set]{q} f

instance slotPts_storable (c : Dev nD) (s : Fin 2) (q) (f) : BI.Storable (upEmb : UEmb _ 𝕄) (slotPts (F := F) c s q f) := by
  unfold slotPts; infer_instance

/-- The rectangle of slot `s`. -/
abbrev slotR (s : Fin 2) : Rect S2x2x4096x256 := Rect.unit (s := S2x2x4096x256) ![s.val, 0, 0, 0] S1x2x4096x256.size (slot_inb s)

theorem slot_set (s : Fin 2) : (slotM s).view.set = (slotR s).set :=
  (View.set_reshape _ _).trans (View.set_slice_whole _ _)

theorem mem_slot (s : Fin 2) (i : S2x2x4096x256.Idx) : i ∈ (slotR s).set ↔ (i 0).val = s.val := by
  rw [Rect.mem_set_unit]
  constructor
  · intro h
    have h0 : s.val ≤ (i 0).val ∧ (i 0).val < s.val + 1 := h 0
    omega
  · intro h a
    fin_cases a
    · show s.val ≤ (i 0).val ∧ (i 0).val < s.val + 1
      omega
    · exact ⟨Nat.zero_le _, by have : (i 1).val < 2 := (i 1).isLt; show (i 1).val < 0 + 2; omega⟩
    · exact ⟨Nat.zero_le _, by have : (i 2).val < 4096 := (i 2).isLt; show (i 2).val < 0 + 4096; omega⟩
    · exact ⟨Nat.zero_le _, by have : (i 3).val < 256 := (i 3).isLt; show (i 3).val < 0 + 256; omega⟩

theorem slot_disjoint : Disjoint (slotM 0).view.set (slotM 1).view.set := by
  rw [slot_set, slot_set]
  refine Finset.disjoint_left.mpr fun i h0 h1 => ?_
  have a := (mem_slot 0 i).mp h0
  have b := (mem_slot 1 i).mp h1
  have : (0 : Fin 2).val = (1 : Fin 2).val := a.symm.trans b
  exact absurd this (by decide)

theorem slot_union : (slotM 0).view.set ∪ (slotM 1).view.set = Finset.univ := by
  rw [slot_set, slot_set]
  refine Finset.eq_univ_iff_forall.mpr fun i => Finset.mem_union.mpr ?_
  have : (i 0).val < 2 := (i 0).isLt
  rcases (by omega : (i 0).val = 0 ∨ (i 0).val = 1) with h | h
  · exact .inl ((mem_slot 0 i).mpr h)
  · exact .inr ((mem_slot 1 i).mpr h)

/-- The whole buffer is its two slots, -/
theorem scr_split (c : Dev nD) (f : Buf (Elt F) ((c : Thread nD τ).loc cc0_scratch0)) :
    (((c : Thread nD τ).loc cc0_scratch0) ↦{fullShare} f : sProp 𝕄) ⊢ iprop(slotPts c 0 fullShare f ∗ slotPts c 1 fullShare f) := by
  unfold slotPts
  rw [← slot_union]
  exact (pointsTo_union slot_disjoint).1
/-- and back, at some contents. -/
theorem scr_join (c : Dev nD) (f g : (cc0_scratch0 : Ref sig .tc).ty.Contents (Elt F)) :
    iprop(slotPts c 0 fullShare f ∗ slotPts c 1 fullShare g) ⊢ (iprop(∃ f : Buf (Elt F) ((c : Thread nD τ).loc cc0_scratch0), ((c : Thread nD τ).loc cc0_scratch0) ↦{fullShare} f) : sProp 𝕄) := by
  unfold slotPts
  iintro H
  iexists _
  rw [← slot_union]
  iapply (pointsTo_join slot_disjoint)
  iexact H

/-- A slot held whole is its two halves, -/
theorem slot_halve (c : Dev nD) (s : Fin 2) (f : (cc0_scratch0 : Ref sig .tc).ty.Contents (Elt F)) :
    slotPts c s fullShare f ⊢ (iprop(slotPts c s fullShare.left f ∗ slotPts c s fullShare.right f) : sProp 𝕄) := by
  unfold slotPts; exact (pointsTo_share (PosShare.mem_left_op_right fullShare)).1
theorem slot_whole (c : Dev nD) (s : Fin 2) (f : (cc0_scratch0 : Ref sig .tc).ty.Contents (Elt F)) :
    iprop(slotPts c s fullShare.left f ∗ slotPts c s fullShare.right f) ⊢ (slotPts c s fullShare f : sProp 𝕄) := by
  unfold slotPts; exact (pointsTo_share (PosShare.mem_left_op_right fullShare)).2

/-- Keys and values read the same whichever slot they lie in. -/
def SlotFree (g : (cc0_scratch0 : Ref sig .tc).ty.Contents (Elt F)) : Prop :=
  ∀ i j : S2x2x4096x256.Idx, (∀ a, a ≠ 0 → (i a).val = (j a).val) → g i = g j

theorem slot_emb (s : Fin 2) (z : S2x4096x256.Idx) (a : Fin 4) :
    (((slotM s).view.emb z : S2x2x4096x256.Idx) a : ℕ)
      = (![s.val, 0, 0, 0] : Fin 4 → ℕ) a + ((Shape.reshapeEquiv (s := S1x2x4096x256) (s' := S2x4096x256) squeezes_S1x2x4096x256_S2x4096x256.numel_eq) z a : ℕ) :=
  ValueKit.view_emb_slice_whole_unit_val cc0_scratch0 _ _ (slot_inb s) _ a

/-- What lands in slot `t` from slot `s` is what slot `s` held. -/
theorem landed_eq (s t : Fin 2) (g fd : (cc0_scratch0 : Ref sig .tc).ty.Contents (Elt F)) (hg : SlotFree g)
    (i : S2x2x4096x256.Idx) (hi : i ∈ (slotM t).view.set) :
    (slotM t).view.write (Elt F) fd ((slotM s).view.read (Elt F) g) Finset.univ i = g i := by
  obtain ⟨z, -, rfl⟩ := Finset.mem_map.mp hi
  rw [View.write_emb_of_mem _ _ (Finset.mem_univ _)]
  refine hg _ _ fun a ha => ?_
  have h1 := slot_emb s z a
  have h2 := slot_emb t z a
  refine h1.trans (Eq.trans ?_ h2.symm)
  congr 1
  fin_cases a
  · exact absurd rfl ha
  all_goals rfl

/-! ## The schedule -/

variable (kv : Dev nD → (cc0_scratch0 : Ref sig .tc).ty.Contents (Elt F))

/-- What hop `h` of device `c` needs to write: slot `slot (h + 1)` of `nxt c`, and that its receive cell is in the
    hop's round. -/
def gate (h : ℕ) (c : Dev nD) : sProp 𝕄 :=
  iprop((∃ f, slotPts (nxt c) (slot (h + 1)) fullShare f) ∗ reached ER (recvCell (nxt c) (slot (h + 1))) (h / 2))
/-- What the send cell gives back at the end of hop `h`. -/
def sendPay (h : ℕ) (c : Dev nD) : sProp 𝕄 := slotPts c (slot h) fullShare.left (kv (back c h))
/-- What hop `h` of `prv c` leaves with `c`. -/
def recvPay (h : ℕ) (c : Dev nD) : sProp 𝕄 :=
  iprop(slotPts c (slot (h + 1)) fullShare (kv (back c (h + 1))) ∗ reached ER (credCell (prv c) (slot (h + 1))) ((h + 1) / 2))
/-- What hop `h` of `nxt c` hands `c` at its end. -/
def credPay (h : ℕ) (c : Dev nD) : sProp 𝕄 := if h < 14 then gate (h + 1) c else iprop(emp)

/-- Fifteen hops; a cell of slot `s` serves every second of them. -/
def ringRd : Rounds.Schedule (GSem nD τ sig) Bool 𝕄 where
  duties g r := if g.1.2 = .tc then
      match kd g.2 with
      | .bar => if r = 0 then Finset.univ else ∅
      | .send s => if 2 * r + s.val < 15 then {false} else ∅
      | .recv s => if 2 * r + (1 - s.val) < 15 then {false} else ∅
      | .cred s => if 2 * r + s.val < 15 then {false} else ∅
      | .other => ∅
    else ∅
  unitless _ := False
  amount g _ _ := match kd g.2 with
    | .send _ => N
    | .recv _ => N
    | _ => 1
  payload g r d := match kd g.2 with
    | .bar => if d then gate 0 g.1.1 else iprop(emp)
    | .send s => sendPay kv (2 * r + s.val) g.1.1
    | .recv s => recvPay kv (2 * r + (1 - s.val)) g.1.1
    | .cred s => credPay (2 * r + s.val) g.1.1
    | .other => iprop(emp)
  amount_pos g _ _ _ := by
    split
    · exact N_pos
    · exact N_pos
    · exact Nat.one_pos

instance ringRd_payload_storable (g : GSem nD τ sig) (r : ℕ) (d : Bool) :
    BI.Storable (upEmb : UEmb _ 𝕄) ((ringRd (F := F) kv).payload g r d) := by
  show BI.Storable upEmb (match kd g.2 with
    | .bar => if d then gate 0 g.1.1 else iprop(emp)
    | .send s => sendPay kv (2 * r + s.val) g.1.1
    | .recv s => recvPay kv (2 * r + (1 - s.val)) g.1.1
    | .cred s => credPay (2 * r + s.val) g.1.1
    | .other => iprop(emp))
  unfold credPay gate recvPay sendPay
  (repeat' split) <;> infer_instance

section Sched
variable (c : Dev nD)

/-! A hop's slots and rounds name the hop. -/
theorem hop_send (h : ℕ) : 2 * (h / 2) + (slot h).val = h := by simp only [slot]; omega
theorem hop_recv (h : ℕ) : 2 * (h / 2) + (1 - (slot (h + 1)).val) = h := by simp only [slot]; omega

theorem duties_bar : (ringRd kv).duties (barCell c) 0 = Finset.univ := by
  dsimp only [ringRd]; rw [if_pos rfl, kd_bar]; exact if_pos rfl
theorem duties_send {h : ℕ} (hh : h < 15) : (ringRd kv).duties (sendCell c (slot h)) (h / 2) = {false} := by
  dsimp only [ringRd]; rw [if_pos rfl, kd_send]; exact if_pos (by rw [hop_send]; exact hh)
theorem duties_recv {h : ℕ} (hh : h < 15) : (ringRd kv).duties (recvCell c (slot (h + 1))) (h / 2) = {false} := by
  dsimp only [ringRd]; rw [if_pos rfl, kd_recv]; exact if_pos (by rw [hop_recv]; exact hh)
theorem duties_cred {h : ℕ} (hh : h < 15) : (ringRd kv).duties (credCell c (slot h)) (h / 2) = {false} := by
  dsimp only [ringRd]; rw [if_pos rfl, kd_cred]; exact if_pos (by rw [hop_send]; exact hh)

/-! From these rounds on no cell has a duty. -/
theorem rest_bar_none : ∀ r, 1 ≤ r → (ringRd kv).duties (barCell c) r = ∅ := fun r hr => by
  dsimp only [ringRd]; rw [if_pos rfl, kd_bar]; exact if_neg (by omega)
theorem rest_send_none (s : Fin 2) (R : ℕ) (hR : 15 ≤ 2 * R + s.val) : ∀ r, R ≤ r → (ringRd kv).duties (sendCell c s) r = ∅ := fun r hr => by
  dsimp only [ringRd]; rw [if_pos rfl, kd_send]; exact if_neg (by omega)
theorem rest_recv_none (s : Fin 2) (R : ℕ) (hR : 15 ≤ 2 * R + (1 - s.val)) : ∀ r, R ≤ r → (ringRd kv).duties (recvCell c s) r = ∅ := fun r hr => by
  dsimp only [ringRd]; rw [if_pos rfl, kd_recv]; exact if_neg (by omega)
theorem rest_cred_none (s : Fin 2) (R : ℕ) (hR : 15 ≤ 2 * R + s.val) : ∀ r, R ≤ r → (ringRd kv).duties (credCell c s) r = ∅ := fun r hr => by
  dsimp only [ringRd]; rw [if_pos rfl, kd_cred]; exact if_neg (by omega)

theorem amount_bar (d : Bool) : (ringRd kv).amount (barCell c) 0 d = 1 := by dsimp only [ringRd]; rw [kd_bar]
theorem amount_send (s : Fin 2) (r : ℕ) (d : Bool) : (ringRd kv).amount (sendCell c s) r d = N := by dsimp only [ringRd]; rw [kd_send]
theorem amount_recv (s : Fin 2) (r : ℕ) (d : Bool) : (ringRd kv).amount (recvCell c s) r d = N := by dsimp only [ringRd]; rw [kd_recv]
theorem amount_cred (s : Fin 2) (r : ℕ) (d : Bool) : (ringRd kv).amount (credCell c s) r d = 1 := by dsimp only [ringRd]; rw [kd_cred]

theorem expect_bar : (ringRd kv).expect (barCell c) 0 = 2 := by
  unfold Schedule.expect Schedule.amountOf
  rw [duties_bar, Finset.sum_congr rfl fun d _ => amount_bar kv c d, Finset.sum_const, Finset.card_univ, Fintype.card_bool, smul_eq_mul]
theorem expect_send {h : ℕ} (hh : h < 15) : (ringRd kv).expect (sendCell c (slot h)) (h / 2) = N := by
  unfold Schedule.expect Schedule.amountOf; rw [duties_send kv c hh, Finset.sum_singleton, amount_send]
theorem expect_recv {h : ℕ} (hh : h < 15) : (ringRd kv).expect (recvCell c (slot (h + 1))) (h / 2) = N := by
  unfold Schedule.expect Schedule.amountOf; rw [duties_recv kv c hh, Finset.sum_singleton, amount_recv]
theorem expect_cred {h : ℕ} (hh : h < 15) : (ringRd kv).expect (credCell c (slot h)) (h / 2) = 1 := by
  unfold Schedule.expect Schedule.amountOf; rw [duties_cred kv c hh, Finset.sum_singleton, amount_cred]

theorem payload_bar_true : (ringRd kv).payload (barCell c) 0 true = gate 0 c := by dsimp only [ringRd]; rw [kd_bar]; exact if_pos rfl
theorem payload_bar_false : (ringRd kv).payload (barCell c) 0 false = iprop(emp) := by
  dsimp only [ringRd]; rw [kd_bar]; exact if_neg Bool.false_ne_true
theorem payload_send (h : ℕ) (d : Bool) : (ringRd kv).payload (sendCell c (slot h)) (h / 2) d = sendPay kv h c := by
  dsimp only [ringRd]; rw [kd_send]; show sendPay kv _ c = _; rw [hop_send]
theorem payload_recv (h : ℕ) (d : Bool) : (ringRd kv).payload (recvCell c (slot (h + 1))) (h / 2) d = recvPay kv h c := by
  dsimp only [ringRd]; rw [kd_recv]; show recvPay kv _ c = _; rw [hop_recv]
theorem payload_cred (h : ℕ) (d : Bool) : (ringRd kv).payload (credCell c (slot h)) (h / 2) d = credPay h c := by
  dsimp only [ringRd]; rw [kd_cred]; show credPay _ c = _; rw [hop_send]

theorem rest_bar : bigSep ((ringRd kv).duties (barCell c) 0 \ ∅) (fun d => (ringRd kv).payload (barCell c) 0 d) = iprop(emp ∗ gate 0 c) := by
  rw [Finset.sdiff_empty, duties_bar, bigSep_univ_eq_bigSepL [false, true] (by decide) (by decide), bigSepL_cons_cons, bigSepL_singleton,
    payload_bar_false, payload_bar_true]
  rfl
theorem rest_send {h : ℕ} (hh : h < 15) : bigSep ((ringRd kv).duties (sendCell c (slot h)) (h / 2) \ ∅) (fun d => (ringRd kv).payload (sendCell c (slot h)) (h / 2) d) = sendPay kv h c := by
  rw [Finset.sdiff_empty, duties_send kv c hh, bigSep_singleton, payload_send]
theorem rest_recv {h : ℕ} (hh : h < 15) : bigSep ((ringRd kv).duties (recvCell c (slot (h + 1))) (h / 2) \ ∅) (fun d => (ringRd kv).payload (recvCell c (slot (h + 1))) (h / 2) d) = recvPay kv h c := by
  rw [Finset.sdiff_empty, duties_recv kv c hh, bigSep_singleton, payload_recv]
theorem rest_cred {h : ℕ} (hh : h < 15) : bigSep ((ringRd kv).duties (credCell c (slot h)) (h / 2) \ ∅) (fun d => (ringRd kv).payload (credCell c (slot h)) (h / 2) d) = credPay h c := by
  rw [Finset.sdiff_empty, duties_cred kv c hh, bigSep_singleton, payload_cred]

end Sched

/-! ## What each core owes; the levels -/

/-- What device `c` raises in hop `h`: its right neighbour's receive cell and its left neighbour's credit cell. -/
def Ohop (c : Dev nD) (h : ℕ) : CellTallies nD τ sig ℕ :=
  tallyAt (credCell (prv c) (slot h)) h 1 + tallyAt (recvCell (nxt c) (slot (h + 1))) h N
/-- What is left to raise with `n` hops to go (the hops `15 - n` … `14`). -/
def Orem (c : Dev nD) : ℕ → CellTallies nD τ sig ℕ
  | 0 => 0
  | n + 1 => Orem c n + Ohop c (14 - n)
/-- At launch a unit to each neighbour's barrier besides. -/
def O₁ (c : Dev nD) : CellTallies nD τ sig ℕ := Orem c 15 + tallyAt (barCell (nxt c)) 0 1
def O₀ (c : Dev nD) : CellTallies nD τ sig ℕ := O₁ c + tallyAt (barCell (prv c)) 0 1

def L (g : GSem nD τ sig) : Finset ℕ := if g.1.2 = .tc then Finset.range 15 else ∅
/-- The barrier at 1; hop `h`'s receive at `2 h + 2`, its credit at `2 h + 3`; everything else at 0. -/
def lv (g : GSem nD τ sig) (h : ℕ) : ℕ := match kd g.2 with
  | .bar => 1
  | .recv _ => 2 * h + 2
  | .cred _ => 2 * h + 3
  | _ => 0

theorem L_of_ne (g : GSem nD τ sig) (h : g.1.2 ≠ .tc) : L g = ∅ := if_neg h
theorem L_tc (c : Dev nD) (sm : SemLoc sig) : L ((c : Thread nD τ), sm) = Finset.range 15 := if_pos rfl

theorem tally_pos {g g' : GSem nD τ sig} {h h' k : ℕ} (hp : 0 < tallyAt g h k g' h') : g' = g ∧ h' = h := by
  rw [tallyAt_apply] at hp
  by_contra hn
  rw [if_neg hn] at hp
  exact Nat.lt_irrefl 0 hp

theorem Ohop_pos {c : Dev nD} {h : ℕ} {g : GSem nD τ sig} {u : ℕ} (hp : 0 < Ohop c h g u) :
    (g = credCell (prv c) (slot h) ∧ u = h) ∨ (g = recvCell (nxt c) (slot (h + 1)) ∧ u = h) := by
  unfold Ohop at hp
  rw [Pi.add_apply, Finsupp.add_apply] at hp
  rcases Nat.add_pos_iff_pos_or_pos.mp hp with h1 | h1
  · exact .inl (tally_pos h1)
  · exact .inr (tally_pos h1)

/-- What is still owed with `n` hops to go lies at the hops from `15 - n` on. -/
theorem Orem_pos {c : Dev nD} {n : ℕ} (hn : n ≤ 15) {g : GSem nD τ sig} {u : ℕ} (hp : 0 < Orem c n g u) :
    g.1.2 = .tc ∧ 15 - n ≤ u ∧ u < 15 ∧ 2 * u + 2 ≤ lv g u := by
  induction n with
  | zero => exact absurd hp (Nat.lt_irrefl 0)
  | succ n ih =>
    rw [Orem, Pi.add_apply, Finsupp.add_apply] at hp
    rcases Nat.add_pos_iff_pos_or_pos.mp hp with h1 | h1
    · obtain ⟨a, b, c, d⟩ := ih (by omega) h1
      exact ⟨a, by omega, c, d⟩
    · rcases Ohop_pos h1 with ⟨rfl, rfl⟩ | ⟨rfl, rfl⟩
      · refine ⟨rfl, by omega, by omega, ?_⟩
        unfold lv; rw [kd_cred]; dsimp only; omega
      · refine ⟨rfl, by omega, by omega, ?_⟩
        unfold lv; rw [kd_recv]

theorem O₀_pos {c : Dev nD} {g : GSem nD τ sig} {u : ℕ} (hp : 0 < O₀ c g u) : g.1.2 = .tc ∧ u < 15 ∧ 1 ≤ lv g u := by
  unfold O₀ O₁ at hp
  rw [Pi.add_apply, Finsupp.add_apply, Pi.add_apply, Finsupp.add_apply] at hp
  rcases Nat.add_pos_iff_pos_or_pos.mp hp with h1 | h1
  · rcases Nat.add_pos_iff_pos_or_pos.mp h1 with h1 | h1
    · obtain ⟨a, -, b, d⟩ := Orem_pos (by omega) h1
      exact ⟨a, b, by omega⟩
    · obtain ⟨rfl, rfl⟩ := tally_pos h1
      exact ⟨rfl, by omega, by unfold lv; rw [kd_bar]⟩
  · obtain ⟨rfl, rfl⟩ := tally_pos h1
    exact ⟨rfl, by omega, by unfold lv; rw [kd_bar]⟩

/-- A wait at index `u`, level `k`, while everything owed lies above `k`. -/
theorem mayWait_of (c : Dev nD) (sm : SemLoc sig) (u k : ℕ) (hu : u < 15) (hk : lv ((c : Thread nD τ), sm) u ≤ k)
    (O : CellTallies nD τ sig ℕ) (hO : ∀ g v, 0 < O g v → g.1.2 = .tc ∧ v < 15 ∧ k < lv g v) :
    (levAts L lv : sProp 𝕄) ⊢ MayWait (c : Thread nD τ) sm u O :=
  MayOwe.of_cut (L := L) (lev := lv) k
    (fun p hp => by rw [Finset.mem_singleton.mp hp, L_tc]; exact Finset.mem_range.mpr hu)
    (fun g v hg => by
      have := hO g v hg
      unfold L; rw [if_pos this.1]; exact Finset.mem_range.mpr this.2.1)
    (fun p hp => by rw [Finset.mem_singleton.mp hp]; exact hk)
    (fun g v hg => (hO g v hg).2.2)

theorem mayWait_bar (c : Dev nD) : (levAts L lv : sProp 𝕄) ⊢ MayWait (c : Thread nD τ) (.reg barS.sem) 0 (Orem c 15) :=
  mayWait_of c _ 0 1 (by omega) (by unfold lv; rw [kd_bar]) _ fun g v hg => by
    obtain ⟨a, -, b, d⟩ := Orem_pos (by omega) hg
    exact ⟨a, b, by omega⟩

/-- The wait for the credit of hop `h`, before hop `h + 1`. -/
theorem mayWait_cred (c : Dev nD) (h : ℕ) (hh : h < 15) (s : Fin 2) :
    (levAts L lv : sProp 𝕄) ⊢ MayWait (c : Thread nD τ) (.reg (credS s).sem) h (Orem c (14 - h)) :=
  mayWait_of c _ h (2 * h + 3) hh (by unfold lv; rw [kd_cred]) _ fun g v hg => by
    obtain ⟨a, b, b', d⟩ := Orem_pos (by omega) hg
    exact ⟨a, b', by omega⟩

theorem mayWait_send (c : Dev nD) (h : ℕ) (hh : h < 15) (s : Fin 2) :
    (levAts L lv : sProp 𝕄) ⊢ MayWait (c : Thread nD τ) (.dma (sendS s).sem) h (Orem c (14 - h) + tallyAt (credCell (prv c) (slot h)) h 1) :=
  mayWait_of c _ h 0 hh (by unfold lv; rw [kd_send]) _ fun g v hg => by
    rw [Pi.add_apply, Finsupp.add_apply] at hg
    rcases Nat.add_pos_iff_pos_or_pos.mp hg with h1 | h1
    · obtain ⟨a, b, b', d⟩ := Orem_pos (by omega) h1
      exact ⟨a, b', by omega⟩
    · obtain ⟨rfl, rfl⟩ := tally_pos h1
      exact ⟨rfl, hh, by unfold lv; rw [kd_cred]; dsimp only; omega⟩

theorem mayWait_recv (c : Dev nD) (h : ℕ) (hh : h < 15) (s : Fin 2) :
    (levAts L lv : sProp 𝕄) ⊢ MayWait (c : Thread nD τ) (.dma (recvS s).sem) h (Orem c (14 - h) + tallyAt (credCell (prv c) (slot h)) h 1) :=
  mayWait_of c _ h (2 * h + 2) hh (by unfold lv; rw [kd_recv]) _ fun g v hg => by
    rw [Pi.add_apply, Finsupp.add_apply] at hg
    rcases Nat.add_pos_iff_pos_or_pos.mp hg with h1 | h1
    · obtain ⟨a, b, b', d⟩ := Orem_pos (by omega) h1
      exact ⟨a, b', by omega⟩
    · obtain ⟨rfl, rfl⟩ := tally_pos h1
      exact ⟨rfl, hh, by unfold lv; rw [kd_cred]; dsimp only; omega⟩

/-- The staging transfers wait at level 0. -/
theorem mayWait_stage (c : Dev nD) (q : DmaSem sig) (hq : kd (.dma q) = .other) (O : CellTallies nD τ sig ℕ) (hO : O = O₀ c ∨ O = 0) :
    (levAts L lv : sProp 𝕄) ⊢ MayWait (c : Thread nD τ) (.dma q) 0 O := by
  rcases hO with rfl | rfl
  · refine mayWait_of c _ 0 0 (by omega) (by unfold lv; rw [hq]) _ fun g v hg => ?_
    obtain ⟨a, b, d⟩ := O₀_pos hg
    exact ⟨a, b, by omega⟩
  · rw [MayWait_zero]; iintro -; iempintro

end Cert.Ring

end
-- ==== Proof.Tiles.lean ====
/-
The prologue, the eight tiles of a hop, and the final division, as pure functions of the buffers' contents.

The running state of a device is three buffers: the accumulator, the running maximum, the running sum. Every part of
the program that moves no data between devices takes the state to a function of it, stated here by the payloads the
program itself stores.
-/
module

public import proofs.«01_k».proof.Proof.Sched

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Contents of a buffer. -/
abbrev Cts (F : FTy → Type) (b : Ref sig .tc) : Type := b.ty.Contents (Elt F)

/-- A whole buffer of device `c` at contents `f`. -/
abbrev buf (c : Dev nD) (b : Ref sig .tc) (f : Cts F b) : sProp 𝕄 := ((c : Thread nD τ).loc b) ↦{fullShare} f

/-- The weakest precondition of a piece of device `c`'s program. -/
abbrev wpP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The running state -/

/-- Accumulator, running maximum, running sum. -/
structure St (F : FTy → Type) where
  o : Cts F cc0_stg3_0
  m : Cts F cc0_scratch1
  l : Cts F cc0_scratch2

def stPts (c : Dev nD) (st : St F) : sProp 𝕄 := iprop(buf c cc0_stg3_0 st.o ∗ buf c cc0_scratch1 st.m ∗ buf c cc0_scratch2 st.l)

/-- A tile's rows of the queries, and the keys and values of a slot. -/
def qAt (q : Cts F cc0_stg0_0) (t : Fin k0_t1_loop.trips) : Vec F S512x256 .f32 := qM.view.readAt (Elt F) (rowsR t).toLoadRect q
def halfAt (s j : Fin 2) (g : Cts F cc0_scratch0) : Vec F S1x1x4096x256 .f32 := cM.view.readAt (Elt F) (halfR s j).toLoadRect g

/-- One tile, on the state: the rows of the tile rewritten. -/
def stepT (s : Fin 2) (q : Cts F cc0_stg0_0) (g : Cts F cc0_scratch0) (t : Fin k0_t1_loop.trips) (st : St F) : St F :=
  let m := mM.view.readAt (Elt F) (colR t).toLoadRect st.m
  let l := lM.view.readAt (Elt F) (colR t).toLoadRect st.l
  let o := oM.view.readAt (Elt F) (rowsR t).toLoadRect st.o
  { o := ((oM.access (rowsR t) : View sig .tc _ _ _)).write (Elt F) st.o (k0_pay7 (qAt q t) (halfAt s 0 g) (halfAt s 1 g) m o) Finset.univ
    m := ((mM.access (colR t) : View sig .tc _ _ _)).write (Elt F) st.m (k0_pay8 (qAt q t) (halfAt s 0 g) m) Finset.univ
    l := ((lM.access (colR t) : View sig .tc _ _ _)).write (Elt F) st.l (k0_pay119 (k0_pay6 (qAt q t) (halfAt s 0 g) m l)) Finset.univ }

/-- The first `k` tiles. -/
def tilesN (s : Fin 2) (q : Cts F cc0_stg0_0) (g : Cts F cc0_scratch0) : ℕ → St F → St F
  | 0, st => st
  | k + 1, st => if h : k < k0_t1_loop.trips then stepT s q g ⟨k, h⟩ (tilesN s q g k st) else tilesN s q g k st

theorem tilesN_succ (s : Fin 2) (q : Cts F cc0_stg0_0) (g : Cts F cc0_scratch0) (t : Fin k0_t1_loop.trips) (st : St F) :
    tilesN s q g (t.val + 1) st = stepT s q g t (tilesN s q g t.val st) := by
  rw [tilesN, dif_pos t.isLt]

/-- All tiles of a hop. -/
def tilesAll (s : Fin 2) (q : Cts F cc0_stg0_0) (g : Cts F cc0_scratch0) (st : St F) : St F := tilesN s q g k0_t1_loop.trips st

theorem half_sub (s j : Fin 2) : cM.view.setOn (halfR s j).toLoadRect.set ⊆ (slotM s).view.set := by
  rw [slot_set]
  intro i hi
  obtain ⟨x, hx, rfl⟩ := Finset.mem_map.mp hi
  have h0 : s.val ≤ (x 0).val ∧ (x 0).val < s.val + 1 := Rect.mem_set_unit.mp hx 0
  refine (mem_slot s _).mpr ?_
  show (x 0).val = s.val
  omega

/-- What a tile touches. -/
def tilePts (c : Dev nD) (s : Fin 2) (p : PosShare TreeShare) (q : Cts F cc0_stg0_0) (g : Cts F cc0_scratch0) (st : St F) : sProp 𝕄 :=
  iprop(buf c cc0_stg0_0 q ∗ slotPts c s p g ∗ stPts c st)

theorem wp_tile (c : Dev nD) (s : Fin 2) (p : PosShare TreeShare) (q : Cts F cc0_stg0_0) (g : Cts F cc0_scratch0) (t : Fin k0_t1_loop.trips) (st : St F) :
    tilePts c s p q g st ⊢ wpP c (tileBody s t ()) (fun _ => tilePts c s p q g (stepT s q g t st)) := by
  unfold tilePts stPts slotPts tileBody
  simp only [stepT, qAt, halfAt, Prog.lift, Prog.bind_op, Prog.bind_ret, Prog.pure_eq_ret]
  iintro ⟨Hq, Hg, Ho, Hm, Hl⟩
  iapply (wp_load 𝒱₀ (c : Thread nD τ) none Set.univ (m := qM) (Finset.subset_univ _)) $$ Hq; iintro Hq
  iapply (wp_load 𝒱₀ (c : Thread nD τ) none Set.univ (m := cM) (half_sub s 0)) $$ Hg; iintro Hg
  iapply (wp_load 𝒱₀ (c : Thread nD τ) none Set.univ (m := cM) (half_sub s 1)) $$ Hg; iintro Hg
  iapply (wp_load 𝒱₀ (c : Thread nD τ) none Set.univ (m := mM) (Finset.subset_univ _)) $$ Hm; iintro Hm
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := mM) (Finset.subset_univ _)) $$ Hm; iintro Hm
  iapply (wp_store 𝒱₀ (c : Thread nD τ) none Set.univ (m := mM) (r := colR t) (Mk := Finset.univ) (Finset.subset_univ _)) $$ Hm; iintro Hm
  iapply (wp_load 𝒱₀ (c : Thread nD τ) none Set.univ (m := lM) (Finset.subset_univ _)) $$ Hl; iintro Hl
  iapply (wp_store 𝒱₀ (c : Thread nD τ) none Set.univ (m := lM) (r := colR t) (Mk := Finset.univ) (Finset.subset_univ _)) $$ Hl; iintro Hl
  iapply (wp_load 𝒱₀ (c : Thread nD τ) none Set.univ (m := oM) (Finset.subset_univ _)) $$ Ho; iintro Ho
  iapply (wp_store 𝒱₀ (c : Thread nD τ) none Set.univ (m := oM) (r := rowsR t) (Mk := Finset.univ) (Finset.subset_univ _)) $$ Ho; iintro Ho
  rw [wp_ret]; imodintro
  isplitl [Hq]; · iexact Hq
  isplitl [Hg]; · iexact Hg
  isplitl [Ho]; · iexact Ho
  isplitl [Hm]; · iexact Hm
  iexact Hl

theorem wp_tiles (c : Dev nD) (s : Fin 2) (p : PosShare TreeShare) (q : Cts F cc0_stg0_0) (g : Cts F cc0_scratch0) (st : St F) :
    tilePts c s p q g st ⊢ wpP c (tilesP s) (fun _ => tilePts c s p q g (tilesAll s q g st)) := by
  unfold tilesP
  iintro H
  iapply (Scf.wp_for (M := 𝕄) frame (wpE (defs₀ (F := F)) 𝒱₀ (c : Thread nD τ) none) Set.univ
    k0_t1_loop.lb k0_t1_loop.ub k0_t1_loop.st k0_t1_ok ⟨⟩ (tileBody s)
    (fun k _ => tilePts c s p q g (tilesN s q g k st)) (fun t _ => by rw [tilesN_succ]; exact wp_tile c s p q g t _))
  isplitl [H]; · iexact H
  iintro %_ H
  iexact H

/-! ## Prologue and division -/

theorem hz2 : (![0, 0] : Fin 2 → Nat) = fun _ => 0 := funext fun a => by fin_cases a <;> rfl

/-- The contents of slot 0 after the prologue's two stores. -/
def initG (k : Cts F cc0_stg1_0) (v : Cts F cc0_stg2_0) (f : Cts F cc0_scratch0) : Cts F cc0_scratch0 :=
  ((cM.access (halfR 0 1) : View sig .tc _ _ _)).write (Elt F) (((cM.access (halfR 0 0) : View sig .tc _ _ _)).write (Elt F) f (k0_pay114 k) Finset.univ) (k0_pay115 v) Finset.univ

/-- The state the prologue leaves. -/
def st₀ : St F := ⟨k0_pay118 (F := F), k0_pay116 (F := F), k0_pay117 (F := F)⟩

theorem half_sub' (j : Fin 2) : (cM.access (halfR 0 j)).setOn Finset.univ ⊆ (slotM 0).view.set := by
  refine Finset.Subset.trans ?_ (half_sub 0 j)
  rw [View.setOn_univ]
  show ((View.whole cc0_scratch0).slice (halfR 0 j)).set ⊆ _
  rw [View.set_slice]
  exact subset_rfl

theorem wp_init (c : Dev nD) (k : Cts F cc0_stg1_0) (v : Cts F cc0_stg2_0) (f : Cts F cc0_scratch0) (st : St F) :
    iprop(buf c cc0_stg1_0 k ∗ buf c cc0_stg2_0 v ∗ slotPts c 0 fullShare f ∗ stPts c st)
      ⊢ wpP c initP (fun _ => iprop(buf c cc0_stg1_0 k ∗ buf c cc0_stg2_0 v ∗ slotPts c 0 fullShare (initG k v f) ∗ stPts c (st₀ (F := F)))) := by
  unfold stPts slotPts initP
  simp only [Prog.lift, Prog.bind_op, Prog.bind_ret, Prog.pure_eq_ret]
  iintro ⟨Hk, Hv, Hg, Ho, Hm, Hl⟩
  iapply (wp_load 𝒱₀ (c : Thread nD τ) none Set.univ (m := kM) (Finset.subset_univ _)) $$ Hk; iintro Hk
  rw [show kM.view.readAt (Elt F) allR.toLoadRect k = k from Memref.readAt_unit_zero (Elt F) cc0_stg1_0 hz2 _ k]
  iapply (wp_load 𝒱₀ (c : Thread nD τ) none Set.univ (m := cM) (half_sub 0 0)) $$ Hg; iintro Hg
  iapply (wp_store 𝒱₀ (c : Thread nD τ) none Set.univ (m := cM) (r := halfR 0 0) (Mk := Finset.univ) (half_sub' 0)) $$ Hg; iintro Hg
  iapply (wp_load 𝒱₀ (c : Thread nD τ) none Set.univ (m := vM) (Finset.subset_univ _)) $$ Hv; iintro Hv
  rw [show vM.view.readAt (Elt F) allR.toLoadRect v = v from Memref.readAt_unit_zero (Elt F) cc0_stg2_0 hz2 _ v]
  iapply (wp_load 𝒱₀ (c : Thread nD τ) none Set.univ (m := cM) (half_sub 0 1)) $$ Hg; iintro Hg
  iapply (wp_store 𝒱₀ (c : Thread nD τ) none Set.univ (m := cM) (r := halfR 0 1) (Mk := Finset.univ) (half_sub' 1)) $$ Hg; iintro Hg
  iapply (wp_load 𝒱₀ (c : Thread nD τ) none Set.univ (m := mM) (Finset.subset_univ _)) $$ Hm; iintro Hm
  iapply (wp_store 𝒱₀ (c : Thread nD τ) none Set.univ (m := mM) (r := allC) (Mk := Finset.univ) (Finset.subset_univ _)) $$ Hm; iintro Hm
  rw [show ((mM.access allC : View sig .tc _ _ _)).write (Elt F) st.m (k0_pay116 (F := F)) Finset.univ = k0_pay116 (F := F) from
    Memref.write_access_unit_zero_univ (Elt F) cc0_scratch1 hz2 _ _ _]
  iapply (wp_load 𝒱₀ (c : Thread nD τ) none Set.univ (m := lM) (Finset.subset_univ _)) $$ Hl; iintro Hl
  iapply (wp_store 𝒱₀ (c : Thread nD τ) none Set.univ (m := lM) (r := allC) (Mk := Finset.univ) (Finset.subset_univ _)) $$ Hl; iintro Hl
  rw [show ((lM.access allC : View sig .tc _ _ _)).write (Elt F) st.l (k0_pay117 (F := F)) Finset.univ = k0_pay117 (F := F) from
    Memref.write_access_unit_zero_univ (Elt F) cc0_scratch2 hz2 _ _ _]
  iapply (wp_load 𝒱₀ (c : Thread nD τ) none Set.univ (m := oM) (Finset.subset_univ _)) $$ Ho; iintro Ho
  iapply (wp_store 𝒱₀ (c : Thread nD τ) none Set.univ (m := oM) (r := allR) (Mk := Finset.univ) (Finset.subset_univ _)) $$ Ho; iintro Ho
  rw [show ((oM.access allR : View sig .tc _ _ _)).write (Elt F) st.o (k0_pay118 (F := F)) Finset.univ = k0_pay118 (F := F) from
    Memref.write_access_unit_zero_univ (Elt F) cc0_stg3_0 hz2 _ _ _]
  rw [wp_ret]; imodintro
  isplitl [Hk]; · iexact Hk
  isplitl [Hv]; · iexact Hv
  isplitl [Hg]; · iexact Hg
  isplitl [Ho]; · iexact Ho
  isplitl [Hm]; · iexact Hm
  iexact Hl

/-- The result from the last state. -/
def outOf (st : St F) : Cts F cc0_stg3_0 := k0_pay1 st.o st.l

theorem wp_fin (c : Dev nD) (st : St F) :
    stPts c st ⊢ wpP c finP (fun _ => stPts c { st with o := outOf st }) := by
  unfold stPts finP
  simp only [Prog.lift, Prog.bind_op, Prog.bind_ret, Prog.pure_eq_ret]
  iintro ⟨Ho, Hm, Hl⟩
  iapply (wp_load 𝒱₀ (c : Thread nD τ) none Set.univ (m := oM) (Finset.subset_univ _)) $$ Ho; iintro Ho
  rw [show oM.view.readAt (Elt F) allR.toLoadRect st.o = st.o from Memref.readAt_unit_zero (Elt F) cc0_stg3_0 hz2 _ st.o]
  iapply (wp_load 𝒱₀ (c : Thread nD τ) none Set.univ (m := lM) (Finset.subset_univ _)) $$ Hl; iintro Hl
  rw [show lM.view.readAt (Elt F) allC.toLoadRect st.l = st.l from Memref.readAt_unit_zero (Elt F) cc0_scratch2 hz2 _ st.l]
  iapply (wp_load 𝒱₀ (c : Thread nD τ) none Set.univ (m := oM) (Finset.subset_univ _)) $$ Ho; iintro Ho
  iapply (wp_store 𝒱₀ (c : Thread nD τ) none Set.univ (m := oM) (r := allR) (Mk := Finset.univ) (Finset.subset_univ _)) $$ Ho; iintro Ho
  rw [show ((oM.access allR : View sig .tc _ _ _)).write (Elt F) st.o (k0_pay1 st.o st.l) Finset.univ = k0_pay1 st.o st.l from
    Memref.write_access_unit_zero_univ (Elt F) cc0_stg3_0 hz2 _ _ _]
  rw [wp_ret]; imodintro
  isplitl [Ho]; · iexact Ho
  isplitl [Hm]; · iexact Hm
  iexact Hl

end Cert.Ring

end
-- ==== Proof.Hop.lean ====
/-
One hop of the ring, proved once for a hop number `h`: the transfer, the tiles computed while it is in flight, the two
waits, the credit; and the wait for a credit before the next hop.
-/
module

public import proofs.«01_k».proof.Proof.Tiles

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (kv : Dev nD → Cts F cc0_scratch0)

/-! ## The cells' invariants, held by everyone -/

/-- A device's cells: barrier, send, receive, credit. -/
abbrev csem : Fin 7 → SemLoc sig := fun
  | 0 => .reg barS.sem
  | 1 => .dma (sendS 0).sem | 2 => .dma (sendS 1).sem
  | 3 => .dma (recvS 0).sem | 4 => .dma (recvS 1).sem
  | 5 => .reg (credS 0).sem | 6 => .reg (credS 1).sem
abbrev kcell (ck : Dev nD × Fin 7) : GSem nD τ sig := ((ck.1 : Thread nD τ), csem ck.2)

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

theorem kcell_mem (c : Dev nD) (k : Fin 7) : kcell (c, k) ∈ ringCells := Finset.mem_map_of_mem _ (Finset.mem_univ (c, k))
theorem bar_mem (c : Dev nD) : barCell c ∈ ringCells := kcell_mem c 0
theorem send_mem (c : Dev nD) (s : Fin 2) : sendCell c s ∈ ringCells := by
  fin_cases s
  · exact kcell_mem c 1
  · exact kcell_mem c 2
theorem recv_mem (c : Dev nD) (s : Fin 2) : recvCell c s ∈ ringCells := by
  fin_cases s
  · exact kcell_mem c 3
  · exact kcell_mem c 4
theorem cred_mem (c : Dev nD) (s : Fin 2) : credCell c s ∈ ringCells := by
  fin_cases s
  · exact kcell_mem c 5
  · exact kcell_mem c 6

/-- Every cell's invariant under its name, and that every cell has reached round 0. -/
def records (K : GSem nD τ sig → ℕ) : sProp 𝕄 :=
  iprop((bigSep ringCells fun g => cellInv ER (ringRd kv) (K g) g) ∗ (bigSep ringCells fun g => reached ER g 0) ∗ (levAts L lv : sProp 𝕄))

instance records_persistent (K : GSem nD τ sig → ℕ) : BI.Persistent (records kv K) := by unfold records; infer_instance

theorem inv_at (K : GSem nD τ sig → ℕ) {g : GSem nD τ sig} (hg : g ∈ ringCells) : records kv K ⊢ cellInv ER (ringRd kv) (K g) g := by
  unfold records
  iintro ⟨H, -, -⟩
  have e : (bigSep ringCells fun g => cellInv ER (ringRd kv) (K g) g) ⊢ cellInv ER (ringRd kv) (K g) g := bigSep_elim hg
  iapply e; iexact H
theorem reached_at (K : GSem nD τ sig → ℕ) {g : GSem nD τ sig} (hg : g ∈ ringCells) : records kv K ⊢ reached ER g 0 := by
  unfold records
  iintro ⟨-, H, -⟩
  have e : (bigSep ringCells fun g => reached ER g 0 : sProp 𝕄) ⊢ reached ER g 0 := bigSep_elim hg
  iapply e; iexact H
theorem mw_cred (K : GSem nD τ sig → ℕ) (c : Dev nD) (h : ℕ) (hh : h < 15) (s : Fin 2) :
    records kv K ⊢ MayWait (c : Thread nD τ) (.reg (credS s).sem) h (Orem c (14 - h)) := by
  unfold records
  iintro ⟨-, -, H⟩
  iapply (mayWait_cred c h hh s); iexact H
theorem mw_send (K : GSem nD τ sig → ℕ) (c : Dev nD) (h : ℕ) (hh : h < 15) (s : Fin 2) :
    records kv K ⊢ MayWait (c : Thread nD τ) (.dma (sendS s).sem) h (Orem c (14 - h) + tallyAt (credCell (prv c) (slot h)) h 1) := by
  unfold records
  iintro ⟨-, -, H⟩
  iapply (mayWait_send c h hh s); iexact H
theorem mw_recv (K : GSem nD τ sig → ℕ) (c : Dev nD) (h : ℕ) (hh : h < 15) (s : Fin 2) :
    records kv K ⊢ MayWait (c : Thread nD τ) (.dma (recvS s).sem) h (Orem c (14 - h) + tallyAt (credCell (prv c) (slot h)) h 1) := by
  unfold records
  iintro ⟨-, -, H⟩
  iapply (mayWait_recv c h hh s); iexact H

/-! ## The state between hops -/

/-- The rights to raise a cell in hop `h`. -/
def hopToks (c : Dev nD) (h : ℕ) : sProp 𝕄 :=
  iprop(dutyTok ER (sendCell c (slot h)) (h / 2) false ∗ dutyTok ER (recvCell (nxt c) (slot (h + 1))) (h / 2) false
    ∗ dutyTok ER (credCell (prv c) (slot h)) (h / 2) false)
/-- What is due to `c` on its receive cell in hop `h`. -/
def recvDue (c : Dev nD) (h : ℕ) : sProp 𝕄 := cred (tallyAt (recvCell c (slot (h + 1))) h N)
/-- What is due to `c` on its credit cell from hop `h` of its right neighbour. -/
def credDue (c : Dev nD) (h : ℕ) : sProp 𝕄 := cred (tallyAt (credCell c (slot h)) h 1)

/-- `Φ h ∗ … ∗ Φ 14`. -/
def rem (Φ : ℕ → sProp 𝕄) (h : ℕ) : sProp 𝕄 := bigSep (Finset.Ico h 15) Φ

theorem rem_peel (Φ : ℕ → sProp 𝕄) {h : ℕ} (hh : h < 15) : rem Φ h = iprop(Φ h ∗ rem Φ (h + 1)) := by
  unfold rem
  rw [show Finset.Ico h 15 = insert h (Finset.Ico (h + 1) 15) from by
    ext x; simp only [Finset.mem_Ico, Finset.mem_insert]; omega, bigSep_insert (by simp)]
  rfl

/-- What `c` holds before hop `h`, whether or not its credit has come. -/
def core (h : ℕ) (c : Dev nD) : sProp 𝕄 :=
  iprop(slotPts c (slot h) fullShare (kv (back c h))
    ∗ atPos ER (sendCell c (slot h)) (h / 2) ∅ 0 ∗ atPos ER (sendCell c (slot (h + 1))) ((h + 1) / 2) ∅ 0
    ∗ atPos ER (recvCell c (slot (h + 1))) (h / 2) ∅ 0 ∗ atPos ER (recvCell c (slot h)) ((h + 1) / 2) ∅ 0
    ∗ atPos ER (credCell c (slot h)) (h / 2) ∅ 0
    ∗ reached ER (sendCell c (slot h)) (h / 2) ∗ reached ER (sendCell c (slot (h + 1))) ((h + 1) / 2)
    ∗ reached ER (recvCell c (slot h)) ((h + 1) / 2) ∗ reached ER (credCell (prv c) (slot h)) (h / 2)
    ∗ rem (hopToks c) h ∗ rem (recvDue c) h)

/-- What `c` owes, at some record of its waits. -/
def owesE (c : Dev nD) (O : CellTallies nD τ sig ℕ) : sProp 𝕄 := iprop(∃ W, owes (c : Thread nD τ) O W)

/-- Before hop `h`, the credit taken. -/
def ready (h : ℕ) (c : Dev nD) : sProp 𝕄 :=
  iprop(core kv h c ∗ atPos ER (credCell c (slot (h + 1))) ((h + 1) / 2) ∅ 0 ∗ reached ER (credCell c (slot (h + 1))) ((h + 1) / 2)
    ∗ gate h c ∗ rem (credDue c) h ∗ owesE c (Orem c (15 - h)))

/-- The slot nobody asks back after the last hop. -/
def spare (h : ℕ) (c : Dev nD) : sProp 𝕄 := if h < 14 then iprop(emp) else iprop(∃ f, slotPts c (slot h) fullShare f)

/-- After hop `h`. -/
def done (h : ℕ) (c : Dev nD) : sProp 𝕄 :=
  iprop(core kv (h + 1) c ∗ atPos ER (credCell c (slot h)) (h / 2) ∅ 0 ∗ rem (credDue c) h ∗ spare h c ∗ owesE c (Orem c (14 - h)))

/-- What is handed to `prv c` with the credit, or kept after the last hop. -/
theorem credPay_intro (h : ℕ) (c : Dev nD) (f : Cts F cc0_scratch0) :
    iprop(slotPts c (slot h) fullShare f ∗ reached ER (recvCell c (slot h)) ((h + 1) / 2)) ⊢ iprop(credPay h (prv c) ∗ spare h c) := by
  unfold credPay spare
  by_cases hh : h < 14
  · rw [if_pos hh, if_pos hh]
    unfold gate
    rw [nxt_prv, show slot (h + 1 + 1) = slot h from slot_add_two h]
    iintro ⟨H, #Hr⟩
    isplitl
    · isplitl
      · iexists f; iexact H
      · iexact Hr
    · iempintro
  · rw [if_neg hh, if_neg hh]
    iintro ⟨H, -⟩
    isplitr; · iempintro
    iexists f; iexact H

/-! ## Running a piece of the program -/

theorem wpP_bind (c : Dev nD) {α β : Type} (p : Prog (TpuEff nD τ sig (Elt F) Λ₀ .tc) α) (k : α → Prog (TpuEff nD τ sig (Elt F) Λ₀ .tc) β) (Q : β → sProp 𝕄) :
    wpP c (p >>= k) Q = wpP c p (fun a => wpP c (k a) Q) := by unfold wpP; rw [wp_bind]

theorem wpP_ret (c : Dev nD) {α : Type} (a : α) (Q : α → sProp 𝕄) : Q a ⊢ wpP c (.ret a) Q := by
  unfold wpP; rw [wp_ret]
  iintro H; imodintro; iexact H

/-- A piece run with its resources, then what follows with the result. -/
theorem wpP_seq (c : Dev nD) {α β : Type} (p : Prog (TpuEff nD τ sig (Elt F) Λ₀ .tc) α) (k : α → Prog (TpuEff nD τ sig (Elt F) Λ₀ .tc) β) (Q : β → sProp 𝕄)
    {P R : sProp 𝕄} (hp : P ⊢ wpP c p (fun _ => R)) :
    P ⊢ iprop((∀ a, R -∗ wpP c (k a) Q) -∗ wpP c (p >>= k) Q) := by
  rw [wpP_bind]
  iintro HP Hk
  iapply (wp_wand_r frame (wpE (defs₀ (F := F)) 𝒱₀ (c : Thread nD τ) none) Set.univ)
  isplitl [HP]
  · iapply hp; iexact HP
  iexact Hk

/-! ## The hop -/

/-- A transfer of either slot counts the same. -/
theorem credit_slot (s : Fin 2) : (slotM s).view.dmaCredit = N := rfl

theorem amount_slot (s : Fin 2) (q : DmaSem sig) : (slotM s).view.amount (.dma q) = N := credit_slot s

/-- The wait for a transfer of a slot. -/
theorem wait_slot_eq (c : Dev nD) (sem : DmaSem sig) (a s : Fin 2) {h₁ : (slotM a).view.WordExact} {h₂ : (slotM s).view.WordExact} (Q : PUnit → sProp 𝕄) :
    wpE (defs₀ (F := F)) 𝒱₀ (c : Thread nD τ) none Set.univ (.waitDma2 sem (slotM a) (slotM s) h₁ h₂) Q = waitSpec (c : Thread nD τ) Set.univ (.dma sem) N Q := by
  rw [← credit_slot s]; exact wpE_waitDma2_eq 𝒱₀ (c : Thread nD τ) none Set.univ Q

/-- What a landed slot is. -/
theorem landing (hkv : ∀ d, SlotFree (kv d)) (c : Dev nD) (h : ℕ) (f : Cts F cc0_scratch0) :
    iprop(slotPts (nxt c) (slot (h + 1)) fullShare ((slotM (slot (h + 1))).view.write (Elt F) f ((slotM (slot h)).view.read (Elt F) (kv (back c h))) Finset.univ)
        ∗ reached ER (credCell c (slot (h + 1))) ((h + 1) / 2))
      ⊢ recvPay kv h (nxt c) := by
  unfold recvPay slotPts
  rw [prv_nxt, back_nxt]
  exact sep_mono_left (Entails.of_eq (pointsTo_congr fun i hi => landed_eq _ _ _ _ (hkv _) i hi))

/-- The transfer of hop `h`, addressed to `n = nxt c`. -/
theorem wp_send_hop (hkv : ∀ d, SlotFree (kv d)) (K : GSem nD τ sig → ℕ) (c n : Dev nD) (hn : n = nxt c) (h : ℕ) (hh : h < 15)
    {hsc : (slotM (slot (h + 1)) : Memref sig (Dev.tc n : Thread nD τ).2.kind .vmem S2x4096x256 .f32).view.ref.isScScratch = false}
    {hsrc : (slotM (slot h)).view.WordExact} {hdst : (slotM (slot (h + 1))).view.WordExact}
    {hsem : DmaTarget.Typed .vmem (.dma (recvS (slot (h + 1))).sem) (.remote (Dev.tc n : Thread nD τ) (slotM (slot (h + 1))) (.dma (sendS (slot h)).sem) hsc)}
    {α : Type} {Q : α → sProp 𝕄} {k : PUnit → Prog (TpuEff nD τ sig (Elt F) Λ₀ .tc) α}
    (f : Cts F cc0_scratch0) (W : Waits sig ℕ) (O : CellTallies nD τ sig ℕ) :
    iprop(cellInv ER (ringRd kv) (K (sendCell c (slot h))) (sendCell c (slot h)) ∗ cellInv ER (ringRd kv) (K (recvCell (nxt c) (slot (h + 1)))) (recvCell (nxt c) (slot (h + 1)))
        ∗ slotPts c (slot h) fullShare.left (kv (back c h))
        ∗ (slotPts (nxt c) (slot (h + 1)) fullShare f ∗ reached ER (credCell c (slot (h + 1))) ((h + 1) / 2))
        ∗ owes (c : Thread nD τ) (O + tallyAt (recvCell (nxt c) (slot (h + 1))) h N) W
        ∗ dutyTok ER (sendCell c (slot h)) (h / 2) false ∗ reached ER (sendCell c (slot h)) (h / 2)
        ∗ dutyTok ER (recvCell (nxt c) (slot (h + 1))) (h / 2) false ∗ reached ER (recvCell (nxt c) (slot (h + 1))) (h / 2))
      ⊢ iprop(((cred (tallyAt (sendCell c (slot h)) h N) ∗ owes (c : Thread nD τ) O W) -∗ wpP c (k ⟨⟩) Q)
          -∗ wpP c (.op (.enqueueDma (slotM (slot h)) (.remote (Dev.tc n : Thread nD τ) (slotM (slot (h + 1))) (.dma (sendS (slot h)).sem) hsc) (.dma (recvS (slot (h + 1))).sem) hsrc hdst hsem) k) Q) := by
  subst hn
  unfold slotPts
  exact Rounds.wp_send_pointsTo_with 𝒱₀ ER (ringRd kv) (c : Thread nD τ) none (c' := (nxt c : Thread nD τ)) (src := slotM (slot h)) (dst := slotM (slot (h + 1)))
    (sS := .dma (sendS (slot h)).sem) (sem := .dma (recvS (slot (h + 1))).sem) (q := fullShare.left) (fs := kv (back c h))
    (F := reached ER (credCell c (slot (h + 1))) ((h + 1) / 2)) (κ₁ := K (sendCell c (slot h))) (κ₂ := K (recvCell (nxt c) (slot (h + 1))))
    (r₁ := h / 2) (r₂ := h / 2) (d₁ := false) (d₂ := false) (fd := f)
    (by rw [duties_send kv c hh]; exact Finset.mem_singleton_self _) (by rw [duties_recv kv _ hh]; exact Finset.mem_singleton_self _)
    h h N (amount_slot _ _) (amount_send kv c _ _ false) (amount_recv kv (nxt c) _ _ false) O rfl (W := W)
    (by rw [payload_send]; exact BI.Entails.refl _)
    (by rw [payload_recv]; exact landing kv hkv c h f)

set_option maxHeartbeats 1600000 in
theorem wp_hop (hkv : ∀ d, SlotFree (kv d)) (K : GSem nD τ sig → ℕ) (c : Dev nD) (h : ℕ) (hh : h < 15) (q : Cts F cc0_stg0_0) (st : St F) :
    iprop(records kv K ∗ ready kv h c ∗ buf c cc0_stg0_0 q ∗ stPts c st)
      ⊢ wpP c (hopP (slot h) (slot (h + 1)) (toR c) (toL c))
          (fun _ => iprop(done kv h c ∗ buf c cc0_stg0_0 q ∗ stPts c (tilesAll (slot h) q (kv (back c h)) st))) := by
  unfold hopP
  simp only [semSignalWord, Prog.lift, Prog.bind_op, Prog.bind_ret, Prog.pure_eq_ret, toL_eq c]
  unfold ready core gate owesE
  rw [rem_peel (hopToks c) hh, rem_peel (recvDue c) hh, show 15 - h = (14 - h) + 1 from by omega]
  rw [show hopToks c h = iprop(dutyTok ER (sendCell c (slot h)) (h / 2) false ∗ dutyTok ER (recvCell (nxt c) (slot (h + 1))) (h / 2) false
    ∗ dutyTok ER (credCell (prv c) (slot h)) (h / 2) false) from rfl, show recvDue c h = cred (tallyAt (recvCell c (slot (h + 1))) h N) from rfl]
  iintro ⟨#HR, ⟨⟨Hslot, HaS, HaS', HaV, HaV', HaC, #HrS, #HrS', #HrV, #HrC, ⟨⟨HtS, HtV, HtC⟩, Htoks⟩, ⟨HcV, HcVs⟩⟩, HaC', #HrC', ⟨⟨%f, HslotN⟩, #HrVN⟩, HcC, ⟨%W, HO⟩⟩, Hq, Hst⟩
  rw [show Orem c ((14 - h) + 1) = (Orem c (14 - h) + tallyAt (credCell (prv c) (slot h)) h 1) + tallyAt (recvCell (nxt c) (slot (h + 1))) h N from by
    show Orem c (14 - h) + Ohop c (14 - (14 - h)) = _
    rw [show 14 - (14 - h) = h from by omega, Ohop, add_assoc]]
  ihave Hh := (slot_halve c (slot h) (kv (back c h))) $$ Hslot
  icases Hh with ⟨Hl, Hr⟩
  iapply (wp_send_hop kv hkv K c _ (toR_eq c) h hh f W (Orem c (14 - h) + tallyAt (credCell (prv c) (slot h)) h 1)) $$ [Hl HslotN HO HtS HtV]
  · isplitr; · iapply (inv_at kv K (send_mem c (slot h))); iexact HR
    isplitr; · iapply (inv_at kv K (recv_mem (nxt c) (slot (h + 1)))); iexact HR
    isplitl [Hl]; · iexact Hl
    isplitl [HslotN]
    · isplitl [HslotN]; · iexact HslotN
      iexact HrC'
    isplitl [HO]; · iexact HO
    isplitl [HtS]; · iexact HtS
    isplitr; · iexact HrS
    isplitl [HtV]; · iexact HtV
    iexact HrVN
  iintro ⟨HcS, HO⟩
  -- the tiles, on the other half of the slot
  iapply (wpP_seq c _ _ _ (wp_tiles c (slot h) fullShare.right q (kv (back c h)) st)) $$ [Hq Hr Hst]
  · unfold tilePts
    isplitl [Hq]; · iexact Hq
    isplitl [Hr]; · iexact Hr
    iexact Hst
  unfold tilePts
  iintro %_ ⟨Hq, Hr, Hst⟩
  -- the wait on the SEND cell: the half of the slot back
  iapply (Rounds.wp_wait_rest_token 𝒱₀ ER (ringRd kv) (c : Thread nD τ) none (κ := K (sendCell c (slot h)))
      (wait_slot_eq c _ _ _) (Set.mem_univ _) h (O := Orem c (14 - h) + tallyAt (credCell (prv c) (slot h)) h 1) (W := W) (R := h / 2) (m := 0) (T := ∅)
      ((Nat.zero_add N).trans (expect_send kv c hh).symm)) $$ [HcS HO HaS]
  · isplitr; · iapply (inv_at kv K (send_mem c (slot h))); iexact HR
    isplitl [HcS]; · iexact HcS
    isplitl [HO]; · iexact HO
    isplitr; · iapply (mw_send kv K c h hh (slot h)); iexact HR
    iexact HaS
  iintro ⟨HO, HaS, #HrSn, Hpay⟩
  ihave Hl := (Entails.of_eq (rest_send kv c hh)) $$ Hpay
  unfold sendPay
  ihave Hslot := (slot_whole c (slot h) (kv (back c h))) $$ [Hl Hr]
  · isplitl [Hl] <;> iassumption
  -- the wait on the RECEIVE cell: the other slot, filled
  iapply (Rounds.wp_wait_rest_token 𝒱₀ ER (ringRd kv) (c : Thread nD τ) none (κ := K (recvCell c (slot (h + 1))))
      (wait_slot_eq c _ _ _) (Set.mem_univ _) h (O := Orem c (14 - h) + tallyAt (credCell (prv c) (slot h)) h 1)
      (W := insert (SemLoc.dma (sendS (slot h)).sem, h) W) (R := h / 2) (m := 0) (T := ∅)
      ((Nat.zero_add N).trans (expect_recv kv c hh).symm)) $$ [HcV HO HaV]
  · isplitr; · iapply (inv_at kv K (recv_mem c (slot (h + 1)))); iexact HR
    isplitl [HcV]; · iexact HcV
    isplitl [HO]; · iexact HO
    isplitr; · iapply (mw_recv kv K c h hh (slot (h + 1))); iexact HR
    iexact HaV
  iintro ⟨HO, HaV, #HrVn, Hpay⟩
  ihave Hp := (Entails.of_eq (rest_recv kv c hh)) $$ Hpay
  unfold recvPay
  icases Hp with ⟨HslotV, #HrCn⟩
  -- the CREDIT to the left neighbour
  ihave Hcp := (credPay_intro h c (kv (back c h))) $$ [Hslot]
  · isplitl [Hslot]; · iexact Hslot
    iexact HrV
  icases Hcp with ⟨Hcp, Hsp⟩
  iapply (Rounds.wp_signal 𝒱₀ ER (ringRd kv) (c : Thread nD τ) none (dst := (prv c : Thread nD τ)) (κ := K (credCell (prv c) (slot h))) (r := h / 2)
      (d := false) (by rw [duties_cred kv _ hh]; exact Finset.mem_singleton_self _) ((amount_cred kv (prv c) (slot h) (h / 2) false).trans (by decide)) h (Orem c (14 - h)) rfl)
    $$ [HO HtC Hcp]
  · isplitr; · iapply (inv_at kv K (cred_mem (prv c) (slot h))); iexact HR
    isplitl [HO]; · iexact HO
    isplitl [HtC]; · iexact HtC
    isplitl [Hcp]; · rw [payload_cred]; iexact Hcp
    iexact HrC
  iintro HO
  iapply (wpP_ret c _ _)
  unfold done core owesE
  rw [show slot (h + 1 + 1) = slot h from slot_add_two h, show (h + 1 + 1) / 2 = h / 2 + 1 from by omega]
  isplitr [Hq Hst]
  · isplitr [HaC HcC Hsp HO]
    · isplitl [HslotV]; · iexact HslotV
      isplitl [HaS']; · iexact HaS'
      isplitl [HaS]; · iexact HaS
      isplitl [HaV']; · iexact HaV'
      isplitl [HaV]; · iexact HaV
      isplitl [HaC']; · iexact HaC'
      isplitr; · iexact HrS'
      isplitr; · iexact HrSn
      isplitr; · iexact HrVn
      isplitr; · iexact HrCn
      isplitl [Htoks]; · iexact Htoks
      iexact HcVs
    isplitl [HaC]; · iexact HaC
    isplitl [HcC]; · iexact HcC
    isplitl [Hsp]; · iexact Hsp
    iexists _; iexact HO
  isplitl [Hq]; · iexact Hq
  iexact Hst

/-- The wait for the credit that hop `h + 1` needs. -/
theorem wp_credit (K : GSem nD τ sig → ℕ) (c : Dev nD) (h : ℕ) (hh : h < 14) :
    iprop(records kv K ∗ done kv h c) ⊢ wpP c (semWaitWord (credS (slot h)).sem 1#32) (fun _ => ready kv (h + 1) c) := by
  simp only [semWaitWord, Prog.lift]
  unfold done owesE
  rw [rem_peel (credDue c) (by omega : h < 15)]
  rw [show ∀ i, credDue c i = (cred (tallyAt (credCell c (slot i)) i 1) : sProp 𝕄) from fun _ => rfl]
  iintro ⟨#HR, Hcore, HaC, ⟨Hc, Hcs⟩, -, ⟨%W, HO⟩⟩
  iapply (Rounds.wp_wait_rest_token 𝒱₀ ER (ringRd kv) (c : Thread nD τ) none (κ := K (credCell c (slot h)))
      (wpE_semWait_eq 𝒱₀ (c : Thread nD τ) none Set.univ) (Set.mem_univ _) h (O := Orem c (14 - h)) (W := W) (R := h / 2) (m := 0) (T := ∅)
      ((Nat.zero_add 1).trans (expect_cred kv c (by omega : h < 15)).symm)) $$ [Hc HO HaC]
  · isplitr; · iapply (inv_at kv K (cred_mem c (slot h))); iexact HR
    isplitl [Hc]; · iexact Hc
    isplitl [HO]; · iexact HO
    isplitr; · iapply (mw_cred kv K c h (by omega) (slot h)); iexact HR
    iexact HaC
  iintro ⟨HO, HaC, #HrC, Hpay⟩
  ihave Hp := (Entails.of_eq ((rest_cred kv c (by omega : h < 15)).trans (if_pos hh))) $$ Hpay
  iapply (wpP_ret c _ _)
  unfold ready owesE
  rw [show slot (h + 1 + 1) = slot h from slot_add_two h, show (h + 1 + 1) / 2 = h / 2 + 1 from by omega, show 15 - (h + 1) = 14 - h from by omega]
  isplitl [Hcore]; · iexact Hcore
  isplitl [HaC]; · iexact HaC
  isplitr; · iexact HrC
  isplitl [Hp]; · iexact Hp
  isplitl [Hcs]; · iexact Hcs
  iexists _; iexact HO

/-- The wait that drains the last credit. -/
theorem wp_drain (K : GSem nD τ sig → ℕ) (c : Dev nD) :
    iprop(records kv K ∗ done kv 14 c) ⊢ wpP c (semWaitWord (credS (slot 14)).sem 1#32)
      (fun _ => iprop(core kv 15 c ∗ atPos ER (credCell c (slot 14)) 8 ∅ 0 ∗ (∃ f, slotPts c (slot 14) fullShare f) ∗ owesE c 0)) := by
  simp only [semWaitWord, Prog.lift]
  unfold done owesE
  rw [rem_peel (credDue c) (by omega : 14 < 15)]
  rw [show ∀ i, credDue c i = (cred (tallyAt (credCell c (slot i)) i 1) : sProp 𝕄) from fun _ => rfl]
  iintro ⟨#HR, Hcore, HaC, ⟨Hc, Hcs⟩, Hsp, ⟨%W, HO⟩⟩
  iapply (Rounds.wp_wait_rest_token 𝒱₀ ER (ringRd kv) (c : Thread nD τ) none (κ := K (credCell c (slot 14)))
      (wpE_semWait_eq 𝒱₀ (c : Thread nD τ) none Set.univ) (Set.mem_univ _) 14 (O := Orem c (14 - 14)) (W := W) (R := 14 / 2) (m := 0) (T := ∅)
      ((Nat.zero_add 1).trans (expect_cred kv c (by omega : 14 < 15)).symm)) $$ [Hc HO HaC]
  · isplitr; · iapply (inv_at kv K (cred_mem c (slot 14))); iexact HR
    isplitl [Hc]; · iexact Hc
    isplitl [HO]; · iexact HO
    isplitr; · iapply (mw_cred kv K c 14 (by omega) (slot 14)); iexact HR
    iexact HaC
  iintro ⟨HO, HaC, -, -⟩
  iapply (wpP_ret c _ _)
  isplitl [Hcore]; · iexact Hcore
  isplitl [HaC]; · iexact HaC
  isplitl [Hsp]; · iapply (Entails.of_eq (show spare (F := F) 14 c = iprop(∃ f, slotPts c (slot 14) fullShare f) from if_neg (by omega))); iexact Hsp
  iexists _; iexact HO

/-- The hops `h + 1, …, h + n`, each after its credit. -/
theorem wp_hops (hkv : ∀ d, SlotFree (kv d)) (K : GSem nD τ sig → ℕ) (c : Dev nD) (q : Cts F cc0_stg0_0) (n : ℕ) :
    ∀ (h : ℕ) (hh : h + n < 15) (st : St F),
      iprop(records kv K ∗ done kv h c ∗ buf c cc0_stg0_0 q ∗ stPts c st)
        ⊢ wpP c (hopsP c (List.range' (h + 1) n))
            (fun _ => iprop(done kv (h + n) c ∗ buf c cc0_stg0_0 q
              ∗ stPts c ((List.range' (h + 1) n).foldl (fun st i => tilesAll (slot i) q (kv (back c i)) st) st))) := by
  induction n with
  | zero =>
    intro h hh st
    iintro ⟨-, H⟩
    iapply (wpP_ret c PUnit.unit (fun _ => iprop(done kv (h + 0) c ∗ buf c cc0_stg0_0 q ∗ stPts c st)))
    iexact H
  | succ n ih =>
    intro h hh st
    rw [List.range'_succ, hopsP, show slot (h + 1 + 1) = slot h from slot_add_two h]
    iintro ⟨#HR, Hd, Hq, Hst⟩
    iapply (wpP_seq c _ _ _ (wp_credit kv K c h (by omega))) $$ [Hd]
    · isplitr; · iexact HR
      iexact Hd
    iintro %_ Hr
    rw [← show slot (h + 1 + 1) = slot h from slot_add_two h]
    iapply (wpP_seq c _ _ _ (wp_hop kv hkv K c (h + 1) (by omega) q st)) $$ [Hr Hq Hst]
    · isplitr; · iexact HR
      isplitl [Hr]; · iexact Hr
      isplitl [Hq] <;> iassumption
    iintro %_ ⟨Hd, Hq, Hst⟩
    rw [List.foldl_cons, show h + (n + 1) = (h + 1) + n from by omega]
    iapply (ih (h + 1) (by omega) _)
    isplitr; · iexact HR
    isplitl [Hd]; · iexact Hd
    isplitl [Hq] <;> iassumption

end Cert.Ring

end
-- ==== Proof.RingRun.lean ====
/-
One device's whole kernel: the barrier, its own keys and values, sixteen rounds of tiles with a hop in each of the first
fifteen, the last credit, the division; and its cells' counters back at zero.
-/
module

public import proofs.«01_k».proof.Proof.Hop

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (kv : Dev nD → Cts F cc0_scratch0)

/-! ## What a device starts from -/

/-- Its seven cells at round 0. -/
def pos0 (c : Dev nD) : sProp 𝕄 :=
  iprop(atPos ER (barCell c) 0 ∅ 0 ∗ atPos ER (sendCell c 0) 0 ∅ 0 ∗ atPos ER (sendCell c 1) 0 ∅ 0
    ∗ atPos ER (recvCell c 0) 0 ∅ 0 ∗ atPos ER (recvCell c 1) 0 ∅ 0 ∗ atPos ER (credCell c 0) 0 ∅ 0 ∗ atPos ER (credCell c 1) 0 ∅ 0)

/-- Its rights to raise its neighbours' barriers. -/
def barToks (c : Dev nD) : sProp 𝕄 := iprop(dutyTok ER (barCell (prv c)) 0 true ∗ dutyTok ER (barCell (nxt c)) 0 false)

/-- All it needs beside its buffers. -/
def ghost (K : GSem nD τ sig → ℕ) (c : Dev nD) : sProp 𝕄 :=
  iprop(records kv K ∗ pos0 c ∗ barToks c ∗ rem (hopToks c) 0)
def dues (c : Dev nD) : sProp 𝕄 := iprop(cred (tallyAt (barCell c) 0 2) ∗ rem (recvDue c) 0 ∗ rem (credDue c) 0)

theorem mw_bar (K : GSem nD τ sig → ℕ) (c : Dev nD) : records kv K ⊢ MayWait (c : Thread nD τ) (.reg barS.sem) 0 (Orem c 15) := by
  unfold records
  iintro ⟨-, -, H⟩
  iapply (mayWait_bar c); iexact H

/-! ## The barrier -/

/-- After the barrier the right neighbour's slot 1 is `c`'s to write. -/
theorem wp_bar (K : GSem nD τ sig → ℕ) (c : Dev nD) :
    iprop(records kv K ∗ atPos ER (barCell c) 0 ∅ 0 ∗ barToks c ∗ (∃ f, slotPts c (slot 1) fullShare f) ∗ cred (tallyAt (barCell c) 0 2) ∗ owesE c (O₀ c))
      ⊢ wpP c (barP c) (fun _ => iprop(atPos ER (barCell c) 1 ∅ 0 ∗ gate 0 c ∗ owesE c (Orem c 15))) := by
  unfold barP
  simp only [semSignalWord, semWaitWord, Prog.lift, Prog.bind_op, Prog.bind_ret, Prog.pure_eq_ret, dev1_eq, dev2_eq]
  unfold barToks owesE
  iintro ⟨#HR, Hat, ⟨HtP, HtN⟩, Hs, Hc, ⟨%W, HO⟩⟩
  iapply (Rounds.wp_signal 𝒱₀ ER (ringRd kv) (c : Thread nD τ) none (dst := (prv c : Thread nD τ)) (κ := K (barCell (prv c))) (r := 0)
      (d := true) (by rw [duties_bar]; exact Finset.mem_univ _) ((amount_bar kv (prv c) true).trans (by decide)) 0 (O₁ c) rfl) $$ [HO HtP Hs]
  · isplitr; · iapply (inv_at kv K (bar_mem (prv c))); iexact HR
    isplitl [HO]; · iexact HO
    isplitl [HtP]; · iexact HtP
    isplitl [Hs]
    · rw [payload_bar_true]; unfold gate
      rw [nxt_prv]
      isplitl [Hs]; · iexact Hs
      iapply (reached_at kv K (recv_mem c (slot 1))); iexact HR
    iapply (reached_at kv K (bar_mem (prv c))); iexact HR
  iintro HO
  iapply (Rounds.wp_signal 𝒱₀ ER (ringRd kv) (c : Thread nD τ) none (dst := (nxt c : Thread nD τ)) (κ := K (barCell (nxt c))) (r := 0)
      (d := false) (by rw [duties_bar]; exact Finset.mem_univ _) ((amount_bar kv (nxt c) false).trans (by decide)) 0 (Orem c 15) rfl) $$ [HO HtN]
  · isplitr; · iapply (inv_at kv K (bar_mem (nxt c))); iexact HR
    isplitl [HO]; · iexact HO
    isplitl [HtN]; · iexact HtN
    isplitr; · rw [payload_bar_false]; iempintro
    iapply (reached_at kv K (bar_mem (nxt c))); iexact HR
  iintro HO
  iapply (Rounds.wp_wait_rest_token 𝒱₀ ER (ringRd kv) (c : Thread nD τ) none (κ := K (barCell c))
      (wpE_semWait_eq 𝒱₀ (c : Thread nD τ) none Set.univ) (Set.mem_univ _) 0 (O := Orem c 15) (W := W) (R := 0) (m := 0) (T := ∅)
      ((Nat.zero_add 2).trans (expect_bar kv c).symm)) $$ [Hc HO Hat]
  · isplitr; · iapply (inv_at kv K (bar_mem c)); iexact HR
    isplitl [Hc]; · iexact Hc
    isplitl [HO]; · iexact HO
    isplitr; · iapply (mw_bar kv K c); iexact HR
    iexact Hat
  iintro ⟨HO, Hat, -, Hpay⟩
  ihave Hp := (Entails.of_eq (rest_bar kv c)) $$ Hpay
  icases Hp with ⟨-, Hg⟩
  iapply (wpP_ret c _ _)
  isplitl [Hat]; · iexact Hat
  isplitl [Hg]; · iexact Hg
  iexists _; iexact HO

/-! ## The whole kernel -/

/-- The state after all sixteen rounds. -/
def lastSt (q : Cts F cc0_stg0_0) (c : Dev nD) : St F :=
  (List.range 16).foldl (fun st i => tilesAll (slot i) q (kv (back c i)) st) (st₀ (F := F))

theorem lastSt_eq (q : Cts F cc0_stg0_0) (c : Dev nD) :
    lastSt kv q c = tilesAll (slot 15) q (kv (back c 15))
      ((List.range' (0 + 1) 14).foldl (fun st i => tilesAll (slot i) q (kv (back c i)) st) (tilesAll (slot 0) q (kv (back c 0)) (st₀ (F := F)))) := rfl

/-- The result of device `c` with its own queries `q`. -/
def resOf (q : Cts F cc0_stg0_0) (c : Dev nD) : Cts F cc0_stg3_0 := outOf (lastSt kv q c)

/-- What is left: the inputs as they were, the result, the scratch buffers at anything, the seven counters at zero. -/
def ended (c : Dev nD) (q : Cts F cc0_stg0_0) (k : Cts F cc0_stg1_0) (v : Cts F cc0_stg2_0) : sProp 𝕄 :=
  iprop(buf c cc0_stg0_0 q ∗ buf c cc0_stg1_0 k ∗ buf c cc0_stg2_0 v ∗ buf c cc0_stg3_0 (resOf kv q c)
    ∗ ((∃ f, buf c cc0_scratch0 f) ∗ (∃ f, buf c cc0_scratch1 f) ∗ (∃ f, buf c cc0_scratch2 f))
    ∗ (semVal (sendCell c 0) 0 ∗ semVal (sendCell c 1) 0 ∗ semVal (recvCell c 0) 0 ∗ semVal (recvCell c 1) 0 ∗ semVal (credCell c 0) 0 ∗ semVal (credCell c 1) 0)
    ∗ semVal (barCell c) 0 ∗ owesE c 0)

/-- Before the first hop. -/
theorem ready_intro (K : GSem nD τ sig → ℕ) (c : Dev nD) :
    iprop(records kv K ∗ slotPts c (slot 0) fullShare (kv c)
        ∗ (atPos ER (sendCell c 0) 0 ∅ 0 ∗ atPos ER (sendCell c 1) 0 ∅ 0
          ∗ atPos ER (recvCell c 0) 0 ∅ 0 ∗ atPos ER (recvCell c 1) 0 ∅ 0 ∗ atPos ER (credCell c 0) 0 ∅ 0 ∗ atPos ER (credCell c 1) 0 ∅ 0)
        ∗ gate 0 c ∗ rem (hopToks c) 0 ∗ rem (recvDue c) 0 ∗ rem (credDue c) 0 ∗ owesE c (Orem c 15))
      ⊢ ready kv 0 c := by
  unfold ready core
  iintro ⟨#HR, Hs, ⟨HaS, HaS', HaV, HaV', HaC, HaC'⟩, Hg, Ht, Hv, Hc, HO⟩
  isplitl [Hs HaS HaS' HaV HaV' HaC Ht Hv]
  · isplitl [Hs]; · iexact Hs
    isplitl [HaS]; · iexact HaS
    isplitl [HaS']; · iexact HaS'
    isplitl [HaV']; · iexact HaV'
    isplitl [HaV]; · iexact HaV
    isplitl [HaC]; · iexact HaC
    isplitr; · iapply (reached_at kv K (send_mem c (slot 0))); iexact HR
    isplitr; · iapply (reached_at kv K (send_mem c (slot 1))); iexact HR
    isplitr; · iapply (reached_at kv K (recv_mem c (slot 0))); iexact HR
    isplitr; · iapply (reached_at kv K (cred_mem (prv c) (slot 0))); iexact HR
    isplitl [Ht]; · iexact Ht
    iexact Hv
  isplitl [HaC']; · iexact HaC'
  isplitr; · iapply (reached_at kv K (cred_mem c (slot 1))); iexact HR
  isplitl [Hg]; · iexact Hg
  isplitl [Hc]; · iexact Hc
  iexact HO

/-- A cell whose rounds are over, closed. -/
theorem close_at (K : GSem nD τ sig → ℕ) {g : GSem nD τ sig} (hg : g ∈ ringCells) {R : ℕ} (hR : ∀ r, R ≤ r → (ringRd kv).duties g r = ∅) :
    iprop(records kv K ∗ atPos ER g R ∅ 0) ⊢ (|={Set.univ}=> semVal g 0 : sProp 𝕄) := by
  iintro ⟨#HR, Hat⟩
  iapply (Rounds.cell_close ER (ringRd kv) (Set.mem_univ (K g)) (fun h => h) (R := R) hR)
  isplitr; · iapply (inv_at kv K hg); iexact HR
  iexact Hat

/-- The six cells of the hops, closed. -/
theorem close_hops (K : GSem nD τ sig → ℕ) (c : Dev nD) :
    iprop(records kv K ∗ core kv 15 c ∗ atPos ER (credCell c (slot 14)) 8 ∅ 0)
      ⊢ (|={Set.univ}=> iprop((semVal (sendCell c 0) 0 ∗ semVal (sendCell c 1) 0 ∗ semVal (recvCell c 0) 0 ∗ semVal (recvCell c 1) 0 ∗ semVal (credCell c 0) 0 ∗ semVal (credCell c 1) 0)
          ∗ slotPts c 1 fullShare (kv (back c 15))) : sProp 𝕄) := by
  unfold core
  iintro ⟨#HR, ⟨Hs, HaS, HaS', HaV, HaV', HaC, -, -, -, -, -, -⟩, HaC'⟩
  imod (close_at kv K (send_mem c 1) (rest_send_none kv c 1 7 (by decide))) $$ [HaS] with H1
  · isplitr; · iexact HR
    iexact HaS
  imod (close_at kv K (send_mem c 0) (rest_send_none kv c 0 8 (by decide))) $$ [HaS'] with H0
  · isplitr; · iexact HR
    iexact HaS'
  imod (close_at kv K (recv_mem c 0) (rest_recv_none kv c 0 7 (by decide))) $$ [HaV] with H2
  · isplitr; · iexact HR
    iexact HaV
  imod (close_at kv K (recv_mem c 1) (rest_recv_none kv c 1 8 (by decide))) $$ [HaV'] with H3
  · isplitr; · iexact HR
    iexact HaV'
  imod (close_at kv K (cred_mem c 1) (rest_cred_none kv c 1 7 (by decide))) $$ [HaC] with H5
  · isplitr; · iexact HR
    iexact HaC
  imod (close_at kv K (cred_mem c 0) (rest_cred_none kv c 0 8 (by decide))) $$ [HaC'] with H4
  · isplitr; · iexact HR
    iexact HaC'
  imodintro
  isplitr [Hs]
  · isplitl [H0]; · iexact H0
    isplitl [H1]; · iexact H1
    isplitl [H2]; · iexact H2
    isplitl [H3]; · iexact H3
    isplitl [H4]; · iexact H4
    iexact H5
  iexact Hs

/-- `c`'s slot 0 after its own keys and values are stored is `kv c`. -/
def Stored (c : Dev nD) (k : Cts F cc0_stg1_0) (v : Cts F cc0_stg2_0) : Prop := ∀ f, ∀ i ∈ (slotM 0).view.set, initG k v f i = kv c i

theorem slot_stored (c : Dev nD) (k : Cts F cc0_stg1_0) (v : Cts F cc0_stg2_0) (h : Stored kv c k v) (f : Cts F cc0_scratch0) :
    (slotPts c 0 fullShare (initG k v f) : sProp 𝕄) ⊢ slotPts c (slot 0) fullShare (kv c) := by
  unfold slotPts
  exact Entails.of_eq (pointsTo_congr fun i hi => h f i hi)

set_option maxHeartbeats 1600000 in
theorem wp_ring (hkv : ∀ d, SlotFree (kv d)) (K : GSem nD τ sig → ℕ) (c : Dev nD) (q : Cts F cc0_stg0_0) (k : Cts F cc0_stg1_0) (v : Cts F cc0_stg2_0)
    (hst : Stored kv c k v) (st : St F) (f : Cts F cc0_scratch0) :
    iprop(ghost kv K c ∗ dues c ∗ owesE c (O₀ c) ∗ buf c cc0_stg0_0 q ∗ buf c cc0_stg1_0 k ∗ buf c cc0_stg2_0 v ∗ buf c cc0_scratch0 f ∗ stPts c st)
      ⊢ wpP c (ringP (F := F)) (fun _ => ended kv c q k v) := by
  unfold ringP
  simp only [Prog.lift, Prog.bind_op, Prog.bind_ret, wp_deviceId]
  unfold ghost pos0 dues
  iintro ⟨⟨#HR, ⟨HaB, Hpos⟩, HtB, Ht⟩, ⟨HcB, Hv, Hc⟩, HO, Hq, Hk, Hvv, Hscr, Hst⟩
  ihave Hss := (scr_split c f) $$ Hscr
  icases Hss with ⟨Hs0, Hs1⟩
  iapply (wpP_seq c _ _ _ (wp_bar kv K c)) $$ [HaB HtB Hs1 HcB HO]
  · isplitr; · iexact HR
    isplitl [HaB]; · iexact HaB
    isplitl [HtB]; · iexact HtB
    isplitl [Hs1]; · iexists f; iexact Hs1
    isplitl [HcB] <;> iassumption
  iintro %_ ⟨HaB, Hg, HO⟩
  iapply (wpP_seq c _ _ _ (wp_init c k v f st)) $$ [Hk Hvv Hs0 Hst]
  · isplitl [Hk]; · iexact Hk
    isplitl [Hvv]; · iexact Hvv
    isplitl [Hs0] <;> iassumption
  iintro %_ ⟨Hk, Hvv, Hs0, Hst⟩
  ihave Hs0 := (slot_stored kv c k v hst f) $$ Hs0
  ihave Hrd := (ready_intro kv K c) $$ [Hs0 Hpos Hg Ht Hv Hc HO]
  · isplitr; · iexact HR
    isplitl [Hs0]; · iexact Hs0
    isplitl [Hpos]; · iexact Hpos
    isplitl [Hg]; · iexact Hg
    isplitl [Ht]; · iexact Ht
    isplitl [Hv]; · iexact Hv
    isplitl [Hc] <;> iassumption
  iapply (wpP_seq c _ _ _ (wp_hop kv hkv K c 0 (by omega) q (st₀ (F := F)))) $$ [Hrd Hq Hst]
  · isplitr; · iexact HR
    isplitl [Hrd]; · iexact Hrd
    isplitl [Hq] <;> iassumption
  iintro %_ ⟨Hd, Hq, Hst⟩
  iapply (wpP_seq c _ _ _ (wp_hops kv hkv K c q 14 0 (by omega) _)) $$ [Hd Hq Hst]
  · isplitr; · iexact HR
    isplitl [Hd]; · iexact Hd
    isplitl [Hq] <;> iassumption
  iintro %_ ⟨Hd, Hq, Hst⟩
  ihave Hd2 := (show done kv (0 + 14) c ⊢ iprop(slotPts c (slot 15) fullShare (kv (back c 15)) ∗ (slotPts c (slot 15) fullShare (kv (back c 15)) -∗ done kv (0 + 14) c)) from by
    unfold done core
    iintro ⟨⟨Hs, H1⟩, H2⟩
    isplitl [Hs]; · iexact Hs
    iintro Hs
    isplitl [Hs H1]; · isplitl [Hs] <;> iassumption
    iexact H2) $$ Hd
  icases Hd2 with ⟨Hs, Hd⟩
  iapply (wpP_seq c _ _ _ (wp_tiles c (slot 15) fullShare q (kv (back c 15)) _)) $$ [Hq Hs Hst]
  · unfold tilePts
    isplitl [Hq]; · iexact Hq
    isplitl [Hs] <;> iassumption
  unfold tilePts
  iintro %_ ⟨Hq, Hs, Hst⟩
  ihave Hd := Hd $$ Hs
  iapply (wpP_seq c _ _ _ (wp_drain kv K c)) $$ [Hd]
  · isplitr; · iexact HR
    iexact Hd
  iintro %_ ⟨Hcore, HaC, ⟨%f0, Hs0⟩, HO⟩
  imod (close_hops kv K c) $$ [Hcore HaC] with ⟨Hz, Hs1⟩
  · isplitr; · iexact HR
    isplitl [Hcore] <;> iassumption
  imod (close_at kv K (bar_mem c) (rest_bar_none kv c)) $$ [HaB] with HzB
  · isplitr; · iexact HR
    iexact HaB
  iapply (wp_wand_r frame (wpE (defs₀ (F := F)) 𝒱₀ (c : Thread nD τ) none) Set.univ)
  isplitl [Hst]
  · iapply (wp_fin c _); iexact Hst
  iintro %_ Hst
  unfold ended stPts
  icases Hst with ⟨Ho, Hm, Hl⟩
  isplitl [Hq]; · iexact Hq
  isplitl [Hk]; · iexact Hk
  isplitl [Hvv]; · iexact Hvv
  isplitl [Ho]; · rw [resOf, lastSt_eq]; iexact Ho
  isplitl [Hs0 Hs1 Hm Hl]
  · isplitl [Hs0 Hs1]
    · iapply (scr_join c f0 (kv (back c 15)))
      isplitl [Hs0]; · iexact Hs0
      iexact Hs1
    isplitl [Hm]; · iexists _; iexact Hm
    iexists _; iexact Hl
  isplitl [Hz]; · iexact Hz
  isplitl [HzB] <;> iassumption

end Cert.Ring

end
-- ==== Proof.Deal.lean ====
/-
Before the first step: every cell gets its invariant, every device its positions and its rights to raise its own and its
neighbours' cells; and what the devices owe each other in all is what each of them is due.
-/
module

public import proofs.«01_k».proof.Proof.RingRun
public import Mathlib.Tactic.Abel

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The rights, as they are made: per device for its own cells -/

/-- The rights on one device's cells: the barrier's two, and in each hop the send, the receive and the credit. -/
abbrev Right : Type := Bool ⊕ (Fin 15 × Fin 3)

abbrev rightAt : Right → SemLoc sig × ℕ × Bool
  | .inl d => (.reg barS.sem, 0, d)
  | .inr (h, 0) => (.dma (sendS (slot h)).sem, h / 2, false)
  | .inr (h, 1) => (.dma (recvS (slot (h + 1))).sem, h / 2, false)
  | .inr (h, 2) => (.reg (credS (slot h)).sem, h / 2, false)

theorem rightAt_injective : Function.Injective rightAt := by decide +kernel

abbrev tokOf (x : Dev nD × Right) : GSem nD τ sig × ℕ × Bool := (((x.1 : Thread nD τ), (rightAt x.2).1), (rightAt x.2).2)

theorem tokOf_injective : Function.Injective tokOf := by
  rintro ⟨c, j⟩ ⟨c', j'⟩ h
  have h1 : c = c' := congrArg (fun x : GSem nD τ sig × ℕ × Bool => x.1.1.1) h
  have h2 : rightAt j = rightAt j' := Prod.ext (congrArg (fun x : GSem nD τ sig × ℕ × Bool => x.1.2) h) (congrArg (fun x : GSem nD τ sig × ℕ × Bool => x.2) h)
  rw [h1, rightAt_injective h2]

def ringToks : Finset (GSem nD τ sig × ℕ × Bool) := Finset.univ.map ⟨tokOf, tokOf_injective⟩

/-- The rights on device `c`'s own cells. -/
def ownToks (c : Dev nD) : sProp 𝕄 :=
  iprop((dutyTok ER (barCell c) 0 false ∗ dutyTok ER (barCell c) 0 true)
    ∗ (bigSep Finset.univ fun h : Fin 15 => dutyTok ER (sendCell c (slot h)) (h / 2) false)
    ∗ (bigSep Finset.univ fun h : Fin 15 => dutyTok ER (recvCell c (slot (h + 1))) (h / 2) false)
    ∗ (bigSep Finset.univ fun h : Fin 15 => dutyTok ER (credCell c (slot h)) (h / 2) false))

/-- The rights that device `c` uses. -/
def useToks (c : Dev nD) : sProp 𝕄 := iprop(barToks c ∗ rem (hopToks c) 0)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem ringToks_eq : bigSep ringToks (fun x => (dutyTok ER x.1 x.2.1 x.2.2 : sProp 𝕄)) = bigSep Finset.univ fun c : Dev nD => ownToks c := by
  unfold ringToks
  rw [bigSep_map, bigSep_univ_prod]
  refine bigSep_congr fun c _ => ?_
  rw [bigSep_univ_sum, bigSep_univ_prod,
    bigSep_univ_eq_bigSepL [false, true] (by decide) (by decide), bigSepL_cons_cons, bigSepL_singleton]
  unfold ownToks
  simp only [bigSep_three, bigSep_sep']
  rfl

omit [FloatOps F] in
/-- A conjunction over the fifteen hops. -/
theorem rem_univ (Φ : ℕ → sProp 𝕄) : rem Φ 0 = bigSep Finset.univ fun h : Fin 15 => Φ h := by
  unfold rem
  rw [show Finset.Ico 0 15 = Finset.univ.map (Fin.valEmbedding (n := 15)) from by decide, bigSep_map]
  rfl

omit [FloatOps F] in
/-- The rights dealt around the ring: each neighbour gets those it uses. -/
theorem toks_around : (bigSep Finset.univ fun c : Dev nD => (ownToks c : sProp 𝕄)) ⊢ bigSep Finset.univ fun c : Dev nD => useToks c := by
  unfold ownToks useToks barToks
  simp only [rem_univ]
  unfold hopToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 15 => dutyTok ER (recvCell c (slot (h + 1))) (h / 2) false : sProp 𝕄)),
    bigSep_univ_equiv ring.symm (fun c : Dev nD => (bigSep Finset.univ fun h : Fin 15 => dutyTok ER (credCell c (slot h)) (h / 2) false : sProp 𝕄))]
  iintro ⟨⟨H1, H2⟩, H3, H4, H5⟩
  isplitl [H1 H2]
  · isplitl [H2]; · iexact H2
    iexact H1
  isplitl [H3]; · iexact H3
  isplitl [H4]; · iexact H4
  iexact H5

/-! ## The cells' invariants -/

variable (kv : Dev nD → Cts F cc0_scratch0)

/-- What the launch deals device `c`. -/
def G (c : Dev nD) : sProp 𝕄 :=
  iprop((bigSep Finset.univ fun k : Fin 7 => roundState ER (ringRd kv) (kcell (c, k)) 0)
    ∗ (bigSep Finset.univ fun k : Fin 7 => iprop(atPos ER (kcell (c, k)) 0 ∅ 0 ∗ reached ER (kcell (c, k)) 0)) ∗ ownToks c)

/-- The invariants and marks of all cells without the levels, which the launch hands over apart. -/
def marks (K : GSem nD τ sig → ℕ) : sProp 𝕄 :=
  iprop((bigSep ringCells fun g => cellInv ER (ringRd kv) (K g) g) ∗ (bigSep ringCells fun g => reached ER g 0))

instance marks_persistent (K : GSem nD τ sig → ℕ) : BI.Persistent (marks kv K) := by unfold marks; infer_instance

/-- What a device takes into its program. -/
def hold (K : GSem nD τ sig → ℕ) (c : Dev nD) : sProp 𝕄 := iprop(marks kv K ∗ pos0 c ∗ useToks c)
def G' (c : Dev nD) : sProp 𝕄 := iprop(∃ K, hold kv K c)

theorem ghost_intro (K : GSem nD τ sig → ℕ) (c : Dev nD) : iprop(hold kv K c ∗ (levAts L lv : sProp 𝕄)) ⊢ ghost kv K c := by
  unfold hold marks useToks ghost records
  iintro ⟨⟨⟨HI, HR⟩, Hp, Hb, Ht⟩, Hl⟩
  isplitl [HI HR Hl]
  · isplitl [HI]; · iexact HI
    isplitl [HR] <;> iassumption
  isplitl [Hp]; · iexact Hp
  isplitl [Hb] <;> iassumption

omit [FloatOps F] in
/-- A conjunction over the cells is one over devices and their seven cells. -/
theorem ringCells_eq (Φ : GSem nD τ sig → sProp 𝕄) :
    bigSep ringCells Φ = bigSep Finset.univ fun c : Dev nD => bigSep Finset.univ fun k : Fin 7 => Φ (kcell (c, k)) := by
  unfold ringCells; rw [bigSep_map, bigSep_univ_prod]; rfl

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_ring : BI.own (ER (initOf ringCells ringToks)) ⊢ (|==> bigSep Finset.univ (G kv) : sProp 𝕄) := by
  iintro HX
  imod (Rounds.fund ER (ringRd kv) ringCells ringToks) $$ HX with ⟨Hst, Hr, Hat, Htok⟩
  imodintro
  ihave Hst' := (Entails.of_eq (ringCells_eq fun g => roundState ER (ringRd kv) g 0)) $$ Hst
  ihave Hat' := (Entails.of_eq (ringCells_eq fun g => atPos ER g 0 ∅ 0)) $$ Hat
  ihave Hr' := (Entails.of_eq (ringCells_eq fun g => reached ER g 0)) $$ Hr
  ihave Htok' := (Entails.of_eq ringToks_eq) $$ Htok
  unfold G; simp only [bigSep_sep']
  isplitl [Hst']; · iexact Hst'
  isplitl [Hat' Hr']
  · isplitl [Hat'] <;> iassumption
  iexact Htok'

/-- The kernel's own semaphores. -/
abbrev osem : Fin 6 → SemLoc sig := fun
  | 0 => .dma (sendS 0).sem | 1 => .dma (sendS 1).sem
  | 2 => .dma (recvS 0).sem | 3 => .dma (recvS 1).sem
  | 4 => .reg (credS 0).sem | 5 => .reg (credS 1).sem

omit [FloatOps F] in
theorem ownSems0_eq (c : Dev nD) : (Pipeline.ownSems0 (Ix := ℕ) (Name := ℕ) (U := UU) (Lvl := ℕ) (Val := Elt F) (τ := τ) osem c : sProp 𝕄)
    = iprop(semVal (sendCell c 0) 0 ∗ semVal (sendCell c 1) 0 ∗ semVal (recvCell c 0) 0 ∗ semVal (recvCell c 1) 0 ∗ semVal (credCell c 0) 0 ∗ semVal (credCell c 1) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS.sem] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G kv c)
      ⊢ |={Set.univ}=> iprop((bigSep Finset.univ fun k => iprop(∃ κ : ℕ, cellInv ER (ringRd kv) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd kv) (kcell (c, k)) 0)
      ⊢ (|={Set.univ}=> bigSep Finset.univ fun k => iprop(∃ κ : ℕ, cellInv ER (ringRd kv) κ (kcell (c, k))) : sProp 𝕄) from by
        rw [← bigSep_sep']
        exact (bigSep_mono fun k _ => (Rounds.body_intro ER (ringRd kv) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What everyone may know goes to every index. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names chosen cell by cell become one naming, and the rights go to those that use them. -/
theorem regroup :
    (bigSep Finset.univ fun c : Dev nD => iprop((bigSep Finset.univ fun k => iprop(∃ κ : ℕ, cellInv ER (ringRd kv) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' kv) := by
  rw [bigSep_sep', bigSep_sep', ← ringCells_eq (fun g => iprop(∃ κ : ℕ, cellInv ER (ringRd kv) κ g)),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← ringCells_eq (fun g => (reached ER g 0 : sProp 𝕄))]
  iintro ⟨HI, ⟨Hat, #HR⟩, Htok⟩
  ihave HK := (BI.bigSep_exists_pi ringCells (fun (g : GSem nD τ sig) (κ : ℕ) => (cellInv ER (ringRd kv) κ g : sProp 𝕄))) $$ HI
  icases HK with ⟨%K, #HI⟩
  ihave Htk := (toks_around (F := F)) $$ Htok
  iapply (bigSep_share (R := marks kv K) (Φ := fun c : Dev nD => iprop(pos0 c ∗ useToks c)) fun c _ => show iprop(marks kv K ∗ pos0 c ∗ useToks c) ⊢ G' kv c from by
    unfold G' hold
    iintro H
    iexists K; iexact H)
  isplitr
  · unfold marks; isplitl; · iexact HI
    iexact HR
  · iapply ((Entails.of_eq (bigSep_sep' Finset.univ (fun c : Dev nD => bigSep Finset.univ fun k : Fin 7 => (atPos ER (kcell (c, k)) 0 ∅ 0 : sProp 𝕄)) useToks).symm).trans
      (bigSep_mono fun c _ => show _ ⊢ iprop(pos0 c ∗ useToks c) from Entails.of_eq (by unfold pos0; rw [bigSep_seven])))
    isplitl [Hat]; · iexact Hat
    iexact Htk

/-- All semaphores of all devices at once. -/
theorem glob : (bigSep Finset.univ fun c => iprop(Pipeline.ownSems0 (Ix := ℕ) (Name := ℕ) (U := UU) (Lvl := ℕ) (Val := Elt F) (τ := τ) osem c ∗ unscopedSems0 c ∗ G kv c) : sProp 𝕄)
    ⊢ |={Set.univ}=> bigSep Finset.univ (G' kv) :=
  ((bigSep_mono fun c _ => core_alloc kv c).trans (bigSep_fupd _ _)).trans (BI.fupd_mono (regroup kv))

/-! ## What is owed is what is due -/

/-- Everything device `c` is due. -/
def dueT (c : Dev nD) : CellTallies nD τ sig ℕ :=
  tallyAt (barCell c) 0 2 + (∑ h ∈ Finset.Ico 0 15, tallyAt (recvCell c (slot (h + 1))) h N + ∑ h ∈ Finset.Ico 0 15, tallyAt (credCell c (slot h)) h 1)

theorem Orem_sum (c : Dev nD) : Orem c 15 = ∑ h ∈ Finset.Ico 0 15, Ohop c h := by
  rw [show Finset.Ico 0 15 = {0, 1, 2, 3, 4, 5, 6, 7, 8, 9, 10, 11, 12, 13, 14} from by decide]
  simp only [Orem, Nat.sub_zero, Nat.reduceSub]
  rw [Finset.sum_insert (by decide), Finset.sum_insert (by decide), Finset.sum_insert (by decide), Finset.sum_insert (by decide), Finset.sum_insert (by decide),
    Finset.sum_insert (by decide), Finset.sum_insert (by decide), Finset.sum_insert (by decide), Finset.sum_insert (by decide), Finset.sum_insert (by decide),
    Finset.sum_insert (by decide), Finset.sum_insert (by decide), Finset.sum_insert (by decide), Finset.sum_insert (by decide), Finset.sum_singleton]
  abel

theorem sum_nxt (f : Dev nD → CellTallies nD τ sig ℕ) : ∑ d, f (nxt d) = ∑ d, f d := Equiv.sum_comp ring f
theorem sum_prv (f : Dev nD → CellTallies nD τ sig ℕ) : ∑ d, f (prv d) = ∑ d, f d := Equiv.sum_comp ring.symm f

theorem owed_due : (∑ d, O₀ d) = ∑ d, dueT d := by
  have e1 : ∑ d, (tallyAt (barCell (nxt d)) 0 1 : CellTallies nD τ sig ℕ) = _ := sum_nxt fun d => tallyAt (barCell d) 0 1
  have e2 : ∑ d, (tallyAt (barCell (prv d)) 0 1 : CellTallies nD τ sig ℕ) = _ := sum_prv fun d => tallyAt (barCell d) 0 1
  have e3 : ∑ d, (∑ h ∈ Finset.Ico 0 15, tallyAt (recvCell (nxt d) (slot (h + 1))) h N : CellTallies nD τ sig ℕ) = _ :=
    sum_nxt fun d => ∑ h ∈ Finset.Ico 0 15, tallyAt (recvCell d (slot (h + 1))) h N
  have e4 : ∑ d, (∑ h ∈ Finset.Ico 0 15, tallyAt (credCell (prv d) (slot h)) h 1 : CellTallies nD τ sig ℕ) = _ :=
    sum_prv fun d => ∑ h ∈ Finset.Ico 0 15, tallyAt (credCell d (slot h)) h 1
  have e5 : (fun d : Dev nD => (tallyAt (barCell d) 0 2 : CellTallies nD τ sig ℕ)) = fun d => tallyAt (barCell d) 0 1 + tallyAt (barCell d) 0 1 :=
    funext fun d => (tallyAt_add _ _ 1 1).symm
  unfold O₀ O₁ dueT
  simp only [Orem_sum, Ohop, Finset.sum_add_distrib]
  rw [e5, Finset.sum_add_distrib, e1, e2, e3, e4]
  abel

theorem dueT_own (c : Dev nD) (g : GSem nD τ sig) (hg : dueT c g ≠ 0) : g.1 = (c.tc : Thread nD τ) := by
  by_contra hne
  refine hg ?_
  have z (g' : GSem nD τ sig) (h k : ℕ) (e : g'.1 = (c.tc : Thread nD τ)) : (tallyAt g' h k : CellTallies nD τ sig ℕ) g = 0 :=
    tallyAt_ne_cell (fun e' => hne ((congrArg Prod.fst e').trans e)) h k
  unfold dueT
  rw [Pi.add_apply, Pi.add_apply, Finset.sum_apply, Finset.sum_apply, z _ _ _ rfl,
    Finset.sum_eq_zero fun h _ => z (recvCell c (slot (h + 1))) h N rfl, Finset.sum_eq_zero fun h _ => z (credCell c (slot h)) h 1 rfl]
  simp

omit [FloatOps F] in
theorem creds (c : Dev nD) : (Pipeline.launchCred O₀ c : sProp 𝕄) ⊢ dues c := by
  rw [Pipeline.launchCred_of_sum O₀ dueT owed_due dueT_own c]
  unfold dueT dues rem recvDue credDue
  rw [← Pipeline.cred_finsetSum, ← Pipeline.cred_finsetSum]
  exact (cred_add _ _).1.trans (sep_mono_right (cred_add _ _).1)

end Cert.Ring

end
-- ==== Proof.Contents.lean ====
/-
Keys and values as they lie in the communication buffer: in either slot, keys first, then values.
-/
module

public import proofs.«01_k».proof.Proof.RingRun
public import Idealize.ShloMosaic.Lib.Pointwise

@[expose] public section

noncomputable section

namespace Cert.Ring

open Cert.KernelIdeal Cert.KernelIdeal.Gen
open Idealize.ShloMosaic
open Idealize.ShloMosaic.TcCoe

variable {F : FTy → Type} [FloatOps F]

/-- A device's keys and values, in both slots. -/
def kvOf (k : Cts F cc0_stg1_0) (v : Cts F cc0_stg2_0) : Cts F cc0_scratch0 := fun i : S2x2x4096x256.Idx =>
  if (i 1).val = 0 then k (ix2 (n0 := 4096) (n1 := 256) (i 2) (i 3)) else v (ix2 (n0 := 4096) (n1 := 256) (i 2) (i 3))

theorem kvOf_free (k : Cts F cc0_stg1_0) (v : Cts F cc0_stg2_0) : SlotFree (kvOf k v) := by
  intro i j h
  have h1 : (i 1).val = (j 1).val := h 1 (by decide)
  have h2 : (i 2 : Fin 4096) = j 2 := Fin.ext (h 2 (by decide))
  have h3 : (i 3 : Fin 256) = j 3 := Fin.ext (h 3 (by decide))
  unfold kvOf
  rw [h1, h2, h3]

/-- Stored keys and values, read back. -/
theorem initG_apply (k : Cts F cc0_stg1_0) (v : Cts F cc0_stg2_0) (f : Cts F cc0_scratch0) (i : S2x2x4096x256.Idx) (hi : (i 0).val = 0) :
    initG k v f i = kvOf k v i := by
  unfold initG kvOf
  show ((View.whole cc0_scratch0).slice (halfR 0 1)).write (Elt F) (((View.whole cc0_scratch0).slice (halfR 0 0)).write (Elt F) f (k0_pay114 k) Finset.univ) (k0_pay115 v) Finset.univ i = _
  rw [View.write_whole_slice_unit, View.write_whole_slice_unit]
  have h1 : (i 1).val < 2 := (i 1).isLt
  have h2 : (i 2).val < 4096 := (i 2).isLt
  have h3 : (i 3).val < 256 := (i 3).isLt
  pointwise [k0_pay114, k0_pay115]
  rcases (by omega : (i 1).val = 0 ∨ (i 1).val = 1) with e | e
  · rw [dif_neg, dif_pos, if_pos e]
    · intro (a : Fin 4)
      fin_cases a
      · show 0 ≤ (i 0).val ∧ (i 0).val < 0 + 1; omega
      · show 0 ≤ (i 1).val ∧ (i 1).val < 0 + 1; omega
      · show 0 ≤ (i 2).val ∧ (i 2).val < 0 + 4096; omega
      · show 0 ≤ (i 3).val ∧ (i 3).val < 0 + 256; omega
    · intro h
      have h' : 1 ≤ (i 1).val := (h (1 : Fin 4)).1
      omega
  · rw [dif_pos, if_neg (by omega)]
    intro (a : Fin 4)
    fin_cases a
    · show 0 ≤ (i 0).val ∧ (i 0).val < 0 + 1; omega
    · show 1 ≤ (i 1).val ∧ (i 1).val < 1 + 1; omega
    · show 0 ≤ (i 2).val ∧ (i 2).val < 0 + 4096; omega
    · show 0 ≤ (i 3).val ∧ (i 3).val < 0 + 256; omega

theorem stored_kvOf (kv : Dev nD → Cts F cc0_scratch0) (c : Dev nD) (k : Cts F cc0_stg1_0) (v : Cts F cc0_stg2_0) (h : kv c = kvOf k v) :
    Stored kv c k v := by
  intro f i hi
  rw [slot_set] at hi
  rw [h]
  exact initG_apply k v f i ((mem_slot 0 i).mp hi)

end Cert.Ring

end
-- ==== Proof.Launch.lean ====
/-
The run of the whole program, on sixteen devices, for any float values: it ends under every schedule, with the computed
results in place, the arguments as they were and every counter at zero.
-/
module

public import proofs.«01_k».proof.Proof.Deal
public import proofs.«01_k».proof.Proof.Contents
public import Idealize.ShloMosaic.Lib.Pipeline.CollectiveSegs
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (l : Loc nD τ sig) → Buf (Elt F) l) (ρ : Dev nD → PrngReg)

/-- The memory the program starts from. -/
def s₀ : MemSt nD τ sig (Elt F) := ⟨m, fun _ => 0, ρ⟩

/-! ## What each device has in its staging buffers -/

def qstg (c : Dev nD) : Cts F cc0_stg0_0 := (win0_0.blk (0 : Fin 1)).view.read (Elt F) ((s₀ m ρ).mem ((c : Thread nD τ).loc main_arg0))
def kstg (c : Dev nD) : Cts F cc0_stg1_0 := (win0_1.blk (0 : Fin 1)).view.read (Elt F) ((s₀ m ρ).mem ((c : Thread nD τ).loc main_arg1))
def vstg (c : Dev nD) : Cts F cc0_stg2_0 := (win0_2.blk (0 : Fin 1)).view.read (Elt F) ((s₀ m ρ).mem ((c : Thread nD τ).loc main_arg2))

/-- Every device's keys and values. -/
def kvs (d : Dev nD) : Cts F cc0_scratch0 := kvOf (kstg m ρ d) (vstg m ρ d)

/-- The result of device `c`. -/
def outAt (c : Dev nD) : Cts F cc0_stg3_0 := resOf (kvs m ρ) (qstg m ρ c) c

/-! ## The region's data -/

/-- What the body of device `c` starts from. -/
def start (c : Dev nD) : sProp 𝕄 := iprop(G' (kvs m ρ) c ∗ dues c ∗ levAts L lv)

abbrev anyScr (c : Dev nD) : sProp 𝕄 :=
  iprop((∃ f : Cts F cc0_scratch0, buf c cc0_scratch0 f) ∗ (∃ f : Cts F cc0_scratch1, buf c cc0_scratch1 f) ∗ (∃ f : Cts F cc0_scratch2, buf c cc0_scratch2 f))
abbrev hopZeros (c : Dev nD) : sProp 𝕄 :=
  iprop(semVal (sendCell c 0) 0 ∗ semVal (sendCell c 1) 0 ∗ semVal (recvCell c 0) 0 ∗ semVal (recvCell c 1) 0 ∗ semVal (credCell c 0) 0 ∗ semVal (credCell c 1) 0)

def Φ₀ (c : Dev nD) : sProp 𝕄 := iprop(start m ρ c ∗ anyScr c)
def Φ₁ (c : Dev nD) : sProp 𝕄 := iprop(anyScr c ∗ hopZeros c ∗ semVal (barCell c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_buf (c : Dev nD) (b : Ref sig .tc) (X : Cts F b) :
    (owns (Ix := ℕ) (Name := ℕ) (U := UU) (Lvl := ℕ) (c : Thread nD τ) (Memref.whole b) fullShare X : sProp 𝕄)
      = iprop(∃ f : Cts F b, ⌜f = X⌝ ∗ buf c b f) := by
  unfold owns; simp only [Memref.view_whole, View.read_whole, View.set_whole]

/-- A staging buffer at given contents. -/
abbrev stg (c : Dev nD) (b : Ref sig .tc) (X : Cts F b) : sProp 𝕄 := iprop(∃ f : Cts F b, ⌜f = X⌝ ∗ buf c b f)

def bodyPre (c : Dev nD) : sProp 𝕄 :=
  iprop(Φ₀ m ρ c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt 0 t0_0.succ
    ∗ stg c cc0_stg0_0 (qstg m ρ c) ∗ stg c cc0_stg1_0 (kstg m ρ c) ∗ stg c cc0_stg2_0 (vstg m ρ c) ∗ stg c cc0_stg3_0 (outAt m ρ c))

theorem ended_post (c : Dev nD) : ended (kvs m ρ) c (qstg m ρ c) (kstg m ρ c) (vstg m ρ c) ⊢ bodyPost m ρ c := by
  unfold ended bodyPost Φ₁ owesE Dat.owesAt Pipeline.owesWithin
  rw [show (dats m ρ 0 c).owed t0_0.succ = 0 from rfl]
  iintro ⟨Hq, Hk, Hv, Ho, Hscr, Hz, HzB, ⟨%W, HO⟩⟩
  isplitl [Hscr Hz HzB]
  · isplitl [Hscr]; · iexact Hscr
    isplitl [Hz]; · iexact Hz
    iexact HzB
  isplitl [HO]
  · iexists W
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Ho

theorem sound_body (c : Dev nD) : bodyPre m ρ c ⊢ wpP c (ringP (F := F)) (fun _ => bodyPost m ρ c) := by
  unfold bodyPre Φ₀ start G' Dat.owesAt Pipeline.owesWithin
  rw [show (dats m ρ 0 c).owed t0_0.castSucc = O₀ c from rfl]
  iintro ⟨⟨⟨⟨%K, Hg⟩, Hd, Hlev⟩, ⟨%f0, Hs0⟩, ⟨%f1, Hs1⟩, ⟨%f2, Hs2⟩⟩, ⟨%W, %hW, HO⟩, ⟨%d0, %g0, %hg0, Hq⟩, ⟨%d1, %g1, %hg1, Hk⟩, ⟨%d2, %g2, %hg2, Hv⟩, ⟨%d3, %g3, %hg3, Ho⟩⟩
  have hq : g0 = qstg m ρ c := by rw [hg0]; unfold Dat.before; rw [if_pos (fetch0_0 t0_0)]; rfl
  have hk : g1 = kstg m ρ c := by rw [hg1]; unfold Dat.before; rw [if_pos (fetch0_1 t0_0)]; rfl
  have hv : g2 = vstg m ρ c := by rw [hg2]; unfold Dat.before; rw [if_pos (fetch0_2 t0_0)]; rfl
  subst hq hk hv
  iapply (wp_wand_r frame (wpE (defs₀ (F := F)) 𝒱₀ (c : Thread nD τ) none) Set.univ)
  isplitl
  · iapply (wp_ring (kvs m ρ) (fun d => kvOf_free _ _) K c (qstg m ρ c) (kstg m ρ c) (vstg m ρ c) (stored_kvOf _ c _ _ rfl) ⟨g3, f1, f2⟩ f0)
    isplitl [Hg Hlev]
    · iapply (ghost_intro (kvs m ρ) K c)
      isplitl [Hg] <;> iassumption
    isplitl [Hd]; · iexact Hd
    isplitl [HO]
    · unfold owesE; iexists W; iexact HO
    isplitl [Hq]; · iexact Hq
    isplitl [Hk]; · iexact Hk
    isplitl [Hv]; · iexact Hv
    isplitl [Hs0]; · iexact Hs0
    unfold stPts
    isplitl [Ho]; · iexact Ho
    isplitl [Hs1] <;> iassumption
  iintro %_ H
  iapply (ended_post m ρ c); iexact H

set_option maxRecDepth 4000 in
/-- The region's body does what its data say. -/
theorem body_obligation (c : Dev nD) : BodyObligation (dats (F := F) m ρ 0 c) (defs₀ (F := F)) 𝒱₀ 0 Set.univ := fun t => by
  rw [fin_N0 t]
  rw [bigSep_W0, bigSep_W0]
  have e : bodyPre m ρ c ⊢ wpP c (cc0_body (F := F) qM (Memref.isWhole_whole _) kM (Memref.isWhole_whole _) vM (Memref.isWhole_whole _) oM (Memref.isWhole_whole _)
      cM (Memref.isWhole_whole _) mM (Memref.isWhole_whole _) lM (Memref.isWhole_whole _) cc0_scratch3 cc0_scratch4 cc0_scratch5) (fun _ => bodyPost m ρ c) := by
    rw [body_eq]; exact sound_body m ρ c
  unfold bodyPre bodyPost at e
  simp only [← owns_buf] at e
  exact e

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (kvs m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the program ends, with the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (kvs m ρ)) (G' := G' (kvs m ρ)) (u₀ := u₀)
    (hu₀ := by
      unfold u₀
      iintro Hu
      ihave H := (ownU_pair _ _) $$ Hu
      icases H with ⟨HP, HX⟩
      imod (fund_ring (kvs m ρ)) $$ HX with HG
      imodintro
      isplitl [HP] <;> iassumption)
    (hglob := glob (kvs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_q (c : Dev nD) : finalA m ρ c (0 : Fin 4) = (s₀ m ρ).mem (win0_0.arr.view.loc (c : Thread nD τ)) :=
  (dats (F := F) m ρ 0 c).arrAt_in (0 : Fin 4) rfl _
theorem finalA_k (c : Dev nD) : finalA m ρ c (1 : Fin 4) = (s₀ m ρ).mem (win0_1.arr.view.loc (c : Thread nD τ)) :=
  (dats (F := F) m ρ 0 c).arrAt_in (1 : Fin 4) rfl _
theorem finalA_v (c : Dev nD) : finalA m ρ c (2 : Fin 4) = (s₀ m ρ).mem (win0_2.arr.view.loc (c : Thread nD τ)) :=
  (dats (F := F) m ρ 0 c).arrAt_in (2 : Fin 4) rfl _

end Cert.Ring

end
-- ==== Proof.Final.lean ====
/-
The result array after the run, and the arrays the staged blocks were read from.
-/
module

public import proofs.«01_k».proof.Proof.Launch

@[expose] public section

noncomputable section

namespace Cert.Ring

open Cert.KernelIdeal Cert.KernelIdeal.Gen
open Idealize.ShloMosaic
open Idealize.ShloMosaic.TcCoe
open Idealize.ShloMosaic.Pipeline (Dat)

variable {F : FTy → Type} [FloatOps F]
variable (m : (l : Loc nD τ sig) → Buf (Elt F) l) (ρ : Dev nD → PrngReg)

theorem qstg_eq (c : Dev nD) : qstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem kstg_eq (c : Dev nD) : kstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem vstg_eq (c : Dev nD) : vstg m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- The result array, read through its one block: what the body left. -/
theorem final_read (c : Dev nD) :
    ((cfg0.win (3 : Fin 4)).blk t0_0).view.read (Elt F) ((dats (F := F) m ρ 0 c).arrAt (3 : Fin 4) cfg0.N) = (dats (F := F) m ρ 0 c).flushed (3 : Fin 4) t0_0 := by
  rw [show cfg0.N = (t0_0 : Fin cfg0.N).val + 1 from rfl, (dats (F := F) m ρ 0 c).arrAt_succ (3 : Fin 4) t0_0]
  rw [show (cfg0.win (3 : Fin 4)).flush t0_0 = true from by decide, if_pos rfl]
  exact View.read_write_univ _ _

/-- The result array holds the device's result. -/
theorem finalA_o (c : Dev nD) : finalA m ρ c (3 : Fin 4) = outAt m ρ c := by
  have ho := final_read (F := F) m ρ c
  have hz : (fun a => (win0_3.index t0_0) a * main_v1.ty.shape.size a) = fun _ => 0 := funext fun a => by fin_cases a <;> decide
  have hr := fun f => Memref.read_access_unit_zero (Elt F) main_v1 hz (fun a => by fin_cases a <;> decide) f
  rw [hr] at ho
  exact ho

/-- The result in terms of the arguments as launched. -/
theorem outAt_eq (c : Dev nD) :
    outAt m ρ c = resOf (fun d : Dev nD => kvOf (m ((d : Thread nD τ).loc main_arg1)) (m ((d : Thread nD τ).loc main_arg2))) (m ((c : Thread nD τ).loc main_arg0)) c := by
  unfold outAt
  rw [qstg_eq, show kvs m ρ = fun d : Dev nD => kvOf (m ((d : Thread nD τ).loc main_arg1)) (m ((d : Thread nD τ).loc main_arg2)) from
    funext fun d => by unfold kvs; rw [kstg_eq, vstg_eq]]

/-- What the program's run leaves in its arrays. -/
theorem arrays {r : PUnit × MemSt nD τ sig (Elt F)} (h : QC m ρ r) (c : Dev nD) :
    r.2.mem ((c : Thread nD τ).loc main_v1)
        = resOf (fun d : Dev nD => kvOf (m ((d : Thread nD τ).loc main_arg1)) (m ((d : Thread nD τ).loc main_arg2))) (m ((c : Thread nD τ).loc main_arg0)) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c (3 : Fin 4)).trans ((finalA_o m ρ c).trans (outAt_eq m ρ c)), (h c (0 : Fin 4)).trans (finalA_q m ρ c),
    (h c (1 : Fin 4)).trans (finalA_k m ρ c), (h c (2 : Fin 4)).trans (finalA_v m ρ c)⟩

end Cert.Ring

end
-- ==== Proof.Softmax.lean ====
/-
The running softmax over the extended reals: scores that are real numbers arrive in blocks, the running maximum, sum and
accumulator are rescaled at each block, and the quotient at the end is the softmax average, whatever the maxima were.
The values averaged may be infinite.
-/
module

public import Idealize.ShloMosaic.PureOps.Ideal

@[expose] public section

noncomputable section

namespace Cert.Ring

open Idealize.ShloMosaic

/-! ## Sums over the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum, infinities among the terms or not. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The maximum of a real number and finitely many others is real. -/
theorem max_fold_real {ι : Type} (s : Finset ι) (f : ι → ℝ) (μ : ℝ) :
    ∃ μ' : ℝ, max (μ : EReal) (s.fold max ⊥ fun i => (f i : EReal)) = μ' := by
  classical
  induction s using Finset.induction_on with
  | empty => exact ⟨μ, by simp⟩
  | insert a s ha ih =>
    obtain ⟨μ', h⟩ := ih
    refine ⟨max (f a) μ', ?_⟩
    rw [Finset.fold_insert ha, max_left_comm, h]
    exact (EReal.coe_strictMono.monotone.map_max).symm

/-- The maximum of finitely many real numbers, at least one, is real. -/
theorem fold_real {ι : Type} [Fintype ι] (i₀ : ι) (f : ι → ℝ) :
    ∃ μ : ℝ, (Finset.univ.fold max ⊥ fun i => (f i : EReal)) = μ := by
  obtain ⟨μ, h⟩ := max_fold_real Finset.univ f (f i₀)
  refine ⟨μ, (max_eq_right ?_).symm.trans h⟩
  exact (Finset.le_fold_max _).mpr (.inr ⟨i₀, Finset.mem_univ _, le_rfl⟩)

theorem exp_sub_real (x μ : ℝ) : Ideal.exp ((x : EReal) - (μ : EReal)) = ((Real.exp (x - μ) : ℝ) : EReal) := by
  rw [← EReal.coe_sub, Ideal.exp_coe]

/-! ## One query row -/

/-- A query row's running maximum, running sum and accumulator. -/
structure Acc (δ : Type) where
  m : EReal
  l : EReal
  o : δ → EReal

variable {ι δ : Type} [Fintype ι]

/-- One block of keys: scores `s`, values `v`. -/
def Acc.step (s : ι → EReal) (v : ι → δ → EReal) (A : Acc δ) : Acc δ :=
  let m' := max A.m (Finset.univ.fold max ⊥ s)
  { m := m'
    l := A.l * Ideal.exp (A.m - m') + ∑ j, Ideal.exp (s j - m')
    o := fun d => A.o d * Ideal.exp (A.m - m') + ∑ j, Ideal.exp (s j - m') * v j d }

/-- What the row holds after `n` blocks of real scores: the maximum is some real number, and both sums are those of
    all blocks so far, shifted by it. -/
def Good (x : ℕ → ι → ℝ) (v : ℕ → ι → δ → EReal) (n : ℕ) (A : Acc δ) : Prop :=
  ∃ μ : ℝ, A.m = μ ∧ A.l = ((∑ i ∈ Finset.range n, ∑ j, Real.exp (x i j - μ) : ℝ) : EReal)
    ∧ ∀ d, A.o d = ∑ i ∈ Finset.range n, ∑ j, ((Real.exp (x i j - μ) : ℝ) : EReal) * v i j d

theorem shift_exp (x μ μ' : ℝ) : Real.exp (x - μ) * Real.exp (μ - μ') = Real.exp (x - μ') := by
  rw [← Real.exp_add]; congr 1; ring

theorem Good.step {x : ℕ → ι → ℝ} {v : ℕ → ι → δ → EReal} {n : ℕ} {A : Acc δ} (h : Good x v n A) :
    Good x v (n + 1) (A.step (fun j => (x n j : EReal)) (v n)) := by
  obtain ⟨μ, hm, hl, ho⟩ := h
  obtain ⟨μ', hμ⟩ := max_fold_real Finset.univ (x n) μ
  refine ⟨μ', ?_, ?_, fun d => ?_⟩
  · show max A.m _ = _
    rw [hm, hμ]
  · show A.l * Ideal.exp (A.m - max A.m _) + ∑ j, Ideal.exp (_ - max A.m _) = _
    rw [hm, hμ, hl, exp_sub_real]
    simp only [exp_sub_real]
    rw [← EReal.coe_mul, ← coe_sum, ← EReal.coe_add, Finset.sum_range_succ, Finset.sum_mul]
    simp only [Finset.sum_mul, shift_exp]
  · show A.o d * Ideal.exp (A.m - max A.m _) + ∑ j, Ideal.exp (_ - max A.m _) * v n j d = _
    rw [hm, hμ, ho, exp_sub_real, Finset.sum_range_succ, sum_mul_real _ _ _ (Real.exp_pos _).le]
    simp only [exp_sub_real]
    congr 1
    refine Finset.sum_congr rfl fun i _ => ?_
    rw [sum_mul_real _ _ _ (Real.exp_pos _).le]
    refine Finset.sum_congr rfl fun j _ => ?_
    rw [mul_right_comm, ← EReal.coe_mul, shift_exp]

theorem Good.all {x : ℕ → ι → ℝ} {v : ℕ → ι → δ → EReal} {A : Acc δ} (h : Good x v 0 A) (n : ℕ) :
    Good x v n ((List.range n).foldl (fun A i => A.step (fun j => (x i j : EReal)) (v i)) A) := by
  induction n with
  | zero => exact h
  | succ n ih =>
    rw [List.range_succ, List.foldl_append]
    exact ih.step

/-! ## The quotient -/

theorem exp_sub_div {κ : Type} (s : Finset κ) (x : κ → ℝ) (μ : ℝ) (j : κ) :
    Real.exp (x j - μ) / ∑ i ∈ s, Real.exp (x i - μ) = Real.exp (x j) / ∑ i ∈ s, Real.exp (x i) := by
  simp only [Real.exp_sub]
  rw [← Finset.sum_div]
  exact div_div_div_cancel_right₀ (Real.exp_pos μ).ne' _ _

theorem Good.div [Nonempty ι] {x : ℕ → ι → ℝ} {v : ℕ → ι → δ → EReal} {n : ℕ} (hn : 0 < n) {A : Acc δ} (h : Good x v n A) (d : δ) :
    Ideal.div (A.o d) A.l
      = ∑ i ∈ Finset.range n, ∑ j, ((Real.exp (x i j) / ∑ i' ∈ Finset.range n, ∑ j', Real.exp (x i' j') : ℝ) : EReal) * v i j d := by
  obtain ⟨μ, -, hl, ho⟩ := h
  have hpos : 0 < ∑ i ∈ Finset.range n, ∑ j, Real.exp (x i j - μ) :=
    Finset.sum_pos (fun i _ => Finset.sum_pos (fun j _ => Real.exp_pos _) Finset.univ_nonempty)
      ⟨0, Finset.mem_range.mpr hn⟩
  rw [hl, ho, Ideal.div_coe hpos.ne', sum_mul_real _ _ _ (one_div_pos.mpr hpos).le]
  refine Finset.sum_congr rfl fun i _ => ?_
  rw [sum_mul_real _ _ _ (one_div_pos.mpr hpos).le]
  refine Finset.sum_congr rfl fun j _ => ?_
  rw [mul_right_comm, ← EReal.coe_mul, mul_one_div]
  have e := exp_sub_div (Finset.range n ×ˢ Finset.univ) (fun p : ℕ × ι => x p.1 p.2) μ (i, j)
  rw [Finset.sum_product, Finset.sum_product] at e
  rw [e]

/-! ## The reference's row -/

/-- A row of softmax weights, the largest score subtracted before the exponential, and the average by them. -/
def softRow (s : ι → EReal) (v : ι → EReal) : EReal :=
  ∑ j, Ideal.div (Ideal.exp (s j - Finset.univ.fold max ⊥ s)) (∑ i, Ideal.exp (s i - Finset.univ.fold max ⊥ s)) * v j

theorem softRow_real (j₀ : ι) (x : ι → ℝ) (v : ι → EReal) :
    softRow (fun j => (x j : EReal)) v = ∑ j, ((Real.exp (x j) / ∑ i, Real.exp (x i) : ℝ) : EReal) * v j := by
  obtain ⟨μ, h⟩ := fold_real j₀ x
  have hpos : 0 < ∑ i, Real.exp (x i - μ) := Finset.sum_pos (fun j _ => Real.exp_pos _) ⟨j₀, Finset.mem_univ _⟩
  unfold softRow
  rw [h]
  simp only [exp_sub_real]
  rw [← coe_sum]
  refine Finset.sum_congr rfl fun j _ => ?_
  rw [Ideal.div_coe hpos.ne', ← EReal.coe_mul, mul_one_div, exp_sub_div]

end Cert.Ring

end
-- ==== Proof.Rows.lean ====
/-
One row of the running state through the tiles: a tile rewrites its own rows, each by one step of the running softmax over
the slot's keys and values, and leaves the others.
-/
module

public import proofs.«01_k».proof.Proof.Contents
public import proofs.«01_k».proof.Proof.Softmax

@[expose] public section

set_option maxRecDepth 16384

noncomputable section

namespace Cert.Ring

open Cert.KernelIdeal Cert.KernelIdeal.Gen
open Idealize.ShloMosaic
open Idealize.ShloMosaic.TcCoe

/-- One sixteenth, as the kernel spells it. -/
def scl : EReal := Ideal.ofBits .f32 0x3D800000#32

/-- The score of a query row against a key row. -/
def score (q : FVec Ideal S4096x256 .f32) (k : FVec Ideal S4096x256 .f32) (r j : Fin 4096) : EReal :=
  (∑ x : Fin 256, q (ix2 r x) * k (ix2 j x)) * scl

theorem negInf : Ideal.ofBits .f32 0xFF800000#32 = ⊥ := by simp [Ideal.ofBits, Ideal.ieee]

/-- One row of the state. -/
def rowOf (st : St Ideal) (r : Fin 4096) : Acc (Fin 256) :=
  { m := (st.m : FVec Ideal S4096x1 .f32) (ix2 r 0)
    l := (st.l : FVec Ideal S4096x1 .f32) (ix2 r 0)
    o := fun d => (st.o : FVec Ideal S4096x256 .f32) (ix2 r d) }

section Payloads

variable (x : Vec Ideal S512x256 .f32) (y z : Vec Ideal S1x1x4096x256 .f32) (m l : Vec Ideal S512x1 .f32) (o : Vec Ideal S512x256 .f32)

/-- A tile's scores. -/
def tsc (r : Fin 512) (j : Fin 4096) : EReal := (∑ u : Fin 256, x (ix2 r u) * y (ix4 0 0 j u)) * scl

theorem pay2_apply (r : Fin 512) (j : Fin 4096) : k0_pay2 x y (ix2 r j) = tsc x y r j := by
  pointwise [k0_pay2, tsc, scl]

theorem pay3_apply (r : Fin 512) : k0_pay3 x y m (ix2 r 0) = max (m (ix2 r 0)) (Finset.univ.fold max ⊥ (tsc x y r)) := by
  pointwise [k0_pay3, pay2_apply]
  rw [negInf]

theorem pay4_apply (r : Fin 512) (j : Fin 4096) :
    k0_pay4 x y m (ix2 r j) = Ideal.exp (tsc x y r j - max (m (ix2 r 0)) (Finset.univ.fold max ⊥ (tsc x y r))) := by
  pointwise [k0_pay4, pay2_apply, pay3_apply]

theorem pay5_apply (r : Fin 512) :
    k0_pay5 x y m (ix2 r 0) = Ideal.exp (m (ix2 r 0) - max (m (ix2 r 0)) (Finset.univ.fold max ⊥ (tsc x y r))) := by
  pointwise [k0_pay5, pay3_apply]

/-- A tile's row before the tile, and its values. -/
def tin (r : Fin 512) : Acc (Fin 256) := { m := m (ix2 r 0), l := l (ix2 r 0), o := fun d => o (ix2 r d) }
def tval (j : Fin 4096) (d : Fin 256) : EReal := z (ix4 0 0 j d)

theorem pay8_apply (r : Fin 512) : k0_pay8 x y m (ix2 r 0) = ((tin m l o r).step (tsc x y r) (tval z)).m := by
  pointwise [k0_pay8, pay3_apply, tin, Acc.step]

theorem pay119_apply (r : Fin 512) : k0_pay119 (k0_pay6 x y m l) (ix2 r 0) = ((tin m l o r).step (tsc x y r) (tval z)).l := by
  pointwise [k0_pay119, k0_pay6, pay5_apply, pay4_apply, tin, Acc.step]

theorem pay7_apply (r : Fin 512) (d : Fin 256) : k0_pay7 x y z m o (ix2 r d) = ((tin m l o r).step (tsc x y r) (tval z)).o d := by
  pointwise [k0_pay7, pay5_apply, pay4_apply, tin, Acc.step, tval]

end Payloads

end Cert.Ring

end
-- ==== Proof.Steps.lean ====
/-
One row of the state through a tile, through a hop's eight tiles, and through the sixteen hops.
-/
module

public import proofs.«01_k».proof.Proof.Rows

@[expose] public section

noncomputable section

namespace Cert.Ring

open Cert.KernelIdeal Cert.KernelIdeal.Gen
open Idealize.ShloMosaic
open Idealize.ShloMosaic.TcCoe

/-- Row `i` of tile `t`, as a row of the whole block. -/
def tileRow (t : Fin k0_t1_loop.trips) (i : Fin 512) : Fin 4096 := ⟨512 * t.val + i.val, by have h : t.val < 8 := t.isLt; omega⟩

/-- Where the tile's index lies in the block. -/
theorem rows_idx (t : Fin k0_t1_loop.trips) (i : Fin 512) (u : Fin 256) : (rowsR t).idx (ix2 i u) = ix2 (tileRow t i) u := by
  refine funext fun a => ?_
  match a with
  | ⟨0, _⟩ => exact Fin.ext (by show k0_off1 t 0 + 1 * i.val = 512 * t.val + i.val; rw [k0_off1_eq]; simp)
  | ⟨1, _⟩ => exact Fin.ext (by show k0_off1 t 1 + 1 * u.val = u.val; rw [k0_off1_eq]; simp)

theorem col_idx (t : Fin k0_t1_loop.trips) (i : Fin 512) : (colR t).idx (ix2 i 0) = ix2 (tileRow t i) 0 := by
  refine funext fun a => ?_
  match a with
  | ⟨0, _⟩ => exact Fin.ext (by show k0_off2 t 0 + 1 * i.val = 512 * t.val + i.val; rw [k0_off2_eq]; simp)
  | ⟨1, _⟩ => exact Fin.ext (by show k0_off2 t 1 + 1 * 0 = 0; rw [k0_off2_eq]; simp)

theorem half_idx (s j : Fin 2) (r : Fin 4096) (u : Fin 256) : (halfR s j).idx (ix4 0 0 r u) = ix4 s j r u := by
  refine funext fun a => ?_
  match a with
  | ⟨0, _⟩ => exact Fin.ext (by show s.val + 1 * 0 = s.val; omega)
  | ⟨1, _⟩ => exact Fin.ext (by show j.val + 1 * 0 = j.val; omega)
  | ⟨2, _⟩ => exact Fin.ext (by show 0 + 1 * r.val = r.val; omega)
  | ⟨3, _⟩ => exact Fin.ext (by show 0 + 1 * u.val = u.val; omega)

theorem qAt_apply (q : FVec Ideal S4096x256 .f32) (t : Fin k0_t1_loop.trips) (i : Fin 512) (u : Fin 256) :
    qAt (F := Ideal) q t (ix2 i u) = q (ix2 (tileRow t i) u) := congrArg q (rows_idx t i u)

theorem oAt_apply (o : FVec Ideal S4096x256 .f32) (t : Fin k0_t1_loop.trips) (i : Fin 512) (u : Fin 256) :
    oM.view.readAt (Elt Ideal) (rowsR t).toLoadRect o (ix2 i u) = o (ix2 (tileRow t i) u) := congrArg o (rows_idx t i u)

theorem mAt_apply (o : FVec Ideal S4096x1 .f32) (t : Fin k0_t1_loop.trips) (i : Fin 512) :
    mM.view.readAt (Elt Ideal) (colR t).toLoadRect o (ix2 i 0) = o (ix2 (tileRow t i) 0) := congrArg o (col_idx t i)

theorem lAt_apply (o : FVec Ideal S4096x1 .f32) (t : Fin k0_t1_loop.trips) (i : Fin 512) :
    lM.view.readAt (Elt Ideal) (colR t).toLoadRect o (ix2 i 0) = o (ix2 (tileRow t i) 0) := congrArg o (col_idx t i)

theorem halfK_apply (s : Fin 2) (k v : FVec Ideal S4096x256 .f32) (j : Fin 4096) (u : Fin 256) :
    halfAt (F := Ideal) s 0 (kvOf k v) (ix4 0 0 j u) = k (ix2 j u) :=
  (congrArg (kvOf (F := Ideal) k v) (half_idx s 0 j u)).trans rfl

theorem halfV_apply (s : Fin 2) (k v : FVec Ideal S4096x256 .f32) (j : Fin 4096) (u : Fin 256) :
    halfAt (F := Ideal) s 1 (kvOf k v) (ix4 0 0 j u) = v (ix2 j u) :=
  (congrArg (kvOf (F := Ideal) k v) (half_idx s 1 j u)).trans rfl

/-! ## Stores, at a row inside the tile and outside it -/

theorem wr_in {b : Ref sig .tc} (R : Rect b.ty.shape) (f : b.ty.Contents (Elt Ideal)) (w : R.shape.Idx → Elt Ideal b.ty.elt)
    {x : R.shape.Idx} {y : b.ty.shape.Idx} (h : R.idx x = y) : ((View.whole b).slice R).write (Elt Ideal) f w Finset.univ y = w x := by
  subst h
  exact congrFun (View.read_write_univ (v := (View.whole b).slice R) f w) x

theorem wr_out {b : Ref sig .tc} {off size : Fin b.ty.shape.rank → ℕ} (inb : ∀ a, off a + size a ≤ b.ty.shape.size a) (f : b.ty.Contents (Elt Ideal))
    (w : (Rect.unit off size inb).shape.Idx → Elt Ideal b.ty.elt) (y : b.ty.shape.Idx) (a : Fin b.ty.shape.rank)
    (h : (y a).val < off a ∨ off a + size a ≤ (y a).val) :
    ((View.whole b).slice (Rect.unit off size inb)).write (Elt Ideal) f w Finset.univ y = f y := by
  rw [View.write_whole_slice_unit]
  refine (updateSlice_apply f w off ⟨rfl, inb⟩ y).trans (dif_neg ?_)
  intro hin
  have h1 := (hin a).1
  have h2 : (y a).val < off a + size a := (hin a).2
  omega

section Fields

variable {F : FTy → Type} [FloatOps F] (s : Fin 2) (q : Cts F cc0_stg0_0) (g : Cts F cc0_scratch0) (t : Fin k0_t1_loop.trips) (st : St F)

theorem stepT_m : (stepT s q g t st).m = (mM.access (colR t) : View sig .tc _ _ _).write (Elt F) st.m
    (k0_pay8 (qAt q t) (halfAt s 0 g) (mM.view.readAt (Elt F) (colR t).toLoadRect st.m)) Finset.univ := by
  unfold stepT
  dsimp only
theorem stepT_l : (stepT s q g t st).l = (lM.access (colR t) : View sig .tc _ _ _).write (Elt F) st.l
    (k0_pay119 (k0_pay6 (qAt q t) (halfAt s 0 g) (mM.view.readAt (Elt F) (colR t).toLoadRect st.m) (lM.view.readAt (Elt F) (colR t).toLoadRect st.l))) Finset.univ := by
  unfold stepT
  dsimp only
theorem stepT_o : (stepT s q g t st).o = (oM.access (rowsR t) : View sig .tc _ _ _).write (Elt F) st.o
    (k0_pay7 (qAt q t) (halfAt s 0 g) (halfAt s 1 g) (mM.view.readAt (Elt F) (colR t).toLoadRect st.m) (oM.view.readAt (Elt F) (rowsR t).toLoadRect st.o)) Finset.univ := by
  unfold stepT
  dsimp only

end Fields

section Stores

variable (t : Fin k0_t1_loop.trips) (i : Fin 512) (r : Fin 4096) (d : Fin 256)
  (f : FVec Ideal S4096x1 .f32) (w : FVec Ideal S512x1 .f32) (o : FVec Ideal S4096x256 .f32) (x : FVec Ideal S512x256 .f32)

theorem m_in : (mM.access (colR t) : View sig .tc _ _ _).write (Elt Ideal) f w Finset.univ (ix2 (n0 := 4096) (n1 := 1) (tileRow t i) 0) = w (ix2 i 0) :=
  wr_in (b := cc0_scratch1) (colR t) f w (col_idx t i)
theorem l_in : (lM.access (colR t) : View sig .tc _ _ _).write (Elt Ideal) f w Finset.univ (ix2 (n0 := 4096) (n1 := 1) (tileRow t i) 0) = w (ix2 i 0) :=
  wr_in (b := cc0_scratch2) (colR t) f w (col_idx t i)
theorem o_in : (oM.access (rowsR t) : View sig .tc _ _ _).write (Elt Ideal) o x Finset.univ (ix2 (n0 := 4096) (n1 := 256) (tileRow t i) d) = x (ix2 i d) :=
  wr_in (b := cc0_stg3_0) (rowsR t) o x (rows_idx t i d)

variable (h : r.val < 512 * t.val ∨ 512 * t.val + 512 ≤ r.val)
include h

theorem m_out : (mM.access (colR t) : View sig .tc _ _ _).write (Elt Ideal) f w Finset.univ (ix2 (n0 := 4096) (n1 := 1) r 0) = f (ix2 r 0) :=
  wr_out (b := cc0_scratch1) (k0_off2_inb t) f w (ix2 (n0 := 4096) (n1 := 1) r 0) (0 : Fin 2) (by
    show r.val < k0_off2 t 0 ∨ k0_off2 t 0 + 512 ≤ r.val; rw [k0_off2_eq]; exact h)
theorem l_out : (lM.access (colR t) : View sig .tc _ _ _).write (Elt Ideal) f w Finset.univ (ix2 (n0 := 4096) (n1 := 1) r 0) = f (ix2 r 0) :=
  wr_out (b := cc0_scratch2) (k0_off2_inb t) f w (ix2 (n0 := 4096) (n1 := 1) r 0) (0 : Fin 2) (by
    show r.val < k0_off2 t 0 ∨ k0_off2 t 0 + 512 ≤ r.val; rw [k0_off2_eq]; exact h)
theorem o_out : (oM.access (rowsR t) : View sig .tc _ _ _).write (Elt Ideal) o x Finset.univ (ix2 (n0 := 4096) (n1 := 256) r d) = o (ix2 r d) :=
  wr_out (b := cc0_stg3_0) (k0_off1_inb t) o x (ix2 (n0 := 4096) (n1 := 256) r d) (0 : Fin 2) (by
    show r.val < k0_off1 t 0 ∨ k0_off1 t 0 + 512 ≤ r.val; rw [k0_off1_eq]; exact h)

end Stores

theorem acc_ext {δ : Type} {A B : Acc δ} (hm : A.m = B.m) (hl : A.l = B.l) (ho : ∀ d, A.o d = B.o d) : A = B := by
  obtain ⟨m, l, o⟩ := A
  obtain ⟨m', l', o'⟩ := B
  obtain rfl : m = m' := hm
  obtain rfl : l = l' := hl
  obtain rfl : o = o' := funext ho
  rfl

/-- The average's two operands of a query row: its scores against a device's keys, and that device's values. -/
def vrow (v : FVec Ideal S4096x256 .f32) (j : Fin 4096) (d : Fin 256) : EReal := v (ix2 j d)

theorem row_in (s : Fin 2) (q k v : FVec Ideal S4096x256 .f32) (t : Fin k0_t1_loop.trips) (st : St Ideal) (i : Fin 512) :
    rowOf (stepT s q (kvOf k v) t st) (tileRow t i) = (rowOf st (tileRow t i)).step (score q k (tileRow t i)) (vrow v) := by
  have hs : tsc (qAt (F := Ideal) q t) (halfAt (F := Ideal) s 0 (kvOf k v)) i = score q k (tileRow t i) := by
    funext j
    unfold tsc score
    simp only [qAt_apply, halfK_apply]
  have hv : tval (halfAt (F := Ideal) s 1 (kvOf k v)) = vrow v := by
    funext j d
    exact halfV_apply s k v j d
  have g1 := congrFun (stepT_m s q (kvOf (F := Ideal) k v) t st) (ix2 (n0 := 4096) (n1 := 1) (tileRow t i) 0)
  have g2 := congrFun (stepT_l s q (kvOf (F := Ideal) k v) t st) (ix2 (n0 := 4096) (n1 := 1) (tileRow t i) 0)
  have g3 := fun d : Fin 256 => congrFun (stepT_o s q (kvOf (F := Ideal) k v) t st) (ix2 (n0 := 4096) (n1 := 256) (tileRow t i) d)
  have hM := mAt_apply st.m t i
  have hL := lAt_apply st.l t i
  have hO := fun d => oAt_apply st.o t i d
  revert g1 g2 g3 hs hv hM hL hO
  generalize stepT s q (kvOf (F := Ideal) k v) t st = st'
  generalize qAt (F := Ideal) q t = X
  generalize halfAt (F := Ideal) s 0 (kvOf k v) = Y
  generalize halfAt (F := Ideal) s 1 (kvOf k v) = Z
  generalize mM.view.readAt (Elt Ideal) (colR t).toLoadRect st.m = M
  generalize lM.view.readAt (Elt Ideal) (colR t).toLoadRect st.l = L
  generalize oM.view.readAt (Elt Ideal) (rowsR t).toLoadRect st.o = O
  intro hs hv g1 g2 g3 hM hL hO
  have hin : tin M L O i = rowOf st (tileRow t i) := acc_ext hM hL hO
  rw [← hin, ← hs, ← hv]
  exact acc_ext (g1.trans ((m_in t i _ _).trans (pay8_apply X Y Z M L O i))) (g2.trans ((l_in t i _ _).trans (pay119_apply X Y Z M L O i)))
    fun d => (g3 d).trans ((o_in t i d _ _).trans (pay7_apply X Y Z M L O i d))

theorem row_out (s : Fin 2) (q k v : FVec Ideal S4096x256 .f32) (t : Fin k0_t1_loop.trips) (st : St Ideal) (r : Fin 4096)
    (h : r.val < 512 * t.val ∨ 512 * t.val + 512 ≤ r.val) : rowOf (stepT s q (kvOf k v) t st) r = rowOf st r := by
  have g1 := congrFun (stepT_m s q (kvOf (F := Ideal) k v) t st) (ix2 (n0 := 4096) (n1 := 1) r 0)
  have g2 := congrFun (stepT_l s q (kvOf (F := Ideal) k v) t st) (ix2 (n0 := 4096) (n1 := 1) r 0)
  have g3 := fun d : Fin 256 => congrFun (stepT_o s q (kvOf (F := Ideal) k v) t st) (ix2 (n0 := 4096) (n1 := 256) r d)
  generalize stepT s q (kvOf (F := Ideal) k v) t st = st' at g1 g2 g3 ⊢
  exact acc_ext (g1.trans (m_out t r _ _ h)) (g2.trans (l_out t r _ _ h)) fun d => (g3 d).trans (o_out t r d _ _ h)

/-- A hop's tiles: every row takes one step over the slot's keys and values. -/
theorem row_tiles (s : Fin 2) (q k v : FVec Ideal S4096x256 .f32) (st : St Ideal) (r : Fin 4096) (n : ℕ) (hn : n ≤ 8) :
    rowOf (tilesN s q (kvOf k v) n st) r = if r.val < 512 * n then (rowOf st r).step (score q k r) (vrow v) else rowOf st r := by
  induction n with
  | zero => rw [if_neg (by omega)]; rfl
  | succ n ih =>
    have ih := ih (by omega)
    have hs := tilesN_succ s q (kvOf k v) (⟨n, by show n < 8; omega⟩ : Fin k0_t1_loop.trips) st
    rw [show tilesN s q (kvOf k v) (n + 1) st = _ from hs]
    by_cases hr : 512 * n ≤ r.val ∧ r.val < 512 * n + 512
    · have e : r = tileRow ⟨n, by show n < 8; omega⟩ ⟨r.val - 512 * n, by omega⟩ := Fin.ext (by show r.val = 512 * n + (r.val - 512 * n); omega)
      rw [if_neg (by omega)] at ih
      rw [if_pos (by omega)]
      have := row_in s q k v (⟨n, by show n < 8; omega⟩ : Fin k0_t1_loop.trips) (tilesN s q (kvOf k v) n st) ⟨r.val - 512 * n, by omega⟩
      rw [← e, ih] at this
      exact this
    · rw [row_out s q k v _ _ r (by show r.val < 512 * n ∨ 512 * n + 512 ≤ r.val; omega), ih]
      by_cases h' : r.val < 512 * n
      · rw [if_pos h', if_pos (by omega)]
      · rw [if_neg h', if_neg (by omega)]

theorem row_hop (s : Fin 2) (q k v : FVec Ideal S4096x256 .f32) (st : St Ideal) (r : Fin 4096) :
    rowOf (tilesAll s q (kvOf k v) st) r = (rowOf st r).step (score q k r) (vrow v) := by
  have h := row_tiles s q k v st r 8 le_rfl
  rw [if_pos (by have := r.isLt; omega)] at h
  exact h

/-- All sixteen hops: the devices' keys and values in the order in which they arrive. -/
theorem row_last (q : FVec Ideal S4096x256 .f32) (k v : Dev nD → FVec Ideal S4096x256 .f32) (c : Dev nD) (r : Fin 4096) :
    rowOf (lastSt (F := Ideal) (fun d => kvOf (k d) (v d)) q c) r
      = (List.range 16).foldl (fun A i => A.step (score q (k (back c i)) r) (vrow (v (back c i)))) (rowOf st₀ r) := by
  unfold lastSt
  generalize (st₀ : St Ideal) = st
  induction List.range 16 generalizing st with
  | nil => rfl
  | cons i L ih =>
    rw [List.foldl_cons, List.foldl_cons, ih, row_hop]

end Cert.Ring

end
-- ==== Proof.Result.lean ====
/-
What one device's result holds at a row and a column, over the ideal values, when the scores
are finite: the softmax average of all the devices' values.
-/
module

public import proofs.«01_k».proof.Proof.Steps

@[expose] public section

set_option maxRecDepth 16384

noncomputable section

namespace Cert.Ring

open Cert.KernelIdeal Cert.KernelIdeal.Gen
open Idealize.ShloMosaic
open Idealize.ShloMosaic.TcCoe

/-- The scale is one sixteenth. -/
theorem scl_eq : scl = ((1 / 16 : ℝ) : EReal) := by
  unfold scl
  simp [Ideal.ofBits, Ideal.ieee]
  rw [← EReal.coe_mul]
  norm_num

/-- The first maximum is a finite number. -/
theorem first_real : ∃ μ : ℝ, Ideal.ofBits .f32 0xF149F2CA#32 = (μ : EReal) := by
  simp [Ideal.ofBits, Ideal.ieee]
  exact ⟨_, (by push_cast; rfl)⟩

theorem good₀ {n : ℕ} (x : ℕ → Fin n → ℝ) (v : ℕ → Fin n → Fin 256 → EReal) (r : Fin 4096) :
    Good x v 0 (rowOf (st₀ (F := Ideal)) r) := by
  obtain ⟨μ, hμ⟩ := first_real
  refine ⟨μ, ?_, ?_, fun d => ?_⟩
  · rw [← hμ]; unfold rowOf st₀; dsimp only; pointwise [k0_pay116]
  · unfold rowOf st₀; dsimp only; pointwise [k0_pay117]; simp [Ideal.ofBits, Ideal.ieee]
  · unfold rowOf st₀; dsimp only; pointwise [k0_pay118]; simp [Ideal.ofBits, Ideal.ieee]

/-- Going back sixteen ways round the ring meets every device once. -/
theorem sum_back {M : Type*} [AddCommMonoid M] (c : Dev nD) (f : Dev nD → M) :
    ∑ i ∈ Finset.range 16, f (back c i) = ∑ d : Dev nD, f d := by
  rw [Finset.sum_range]
  have hb : Function.Bijective fun i : Fin 16 => back c i.val := by
    revert c; decide
  exact Function.Bijective.sum_comp hb f

theorem outOf_apply (st : St Ideal) (r : Fin 4096) (d : Fin 256) :
    outOf st (ix2 r d) = Ideal.div ((rowOf st r).o d) (rowOf st r).l := by
  unfold outOf rowOf; dsimp only
  pointwise [k0_pay1]

/-- A device's result at a row and a column: the average of the values weighted by the exponentials
    of the scores, over every device's keys. -/
theorem res_apply (q : FVec Ideal S4096x256 .f32) (k v : Dev nD → FVec Ideal S4096x256 .f32) (c : Dev nD) (r : Fin 4096)
    (x : Dev nD → Fin 4096 → ℝ) (hx : ∀ d j, score q (k d) r j = (x d j : EReal)) (e : Fin 256) :
    resOf (F := Ideal) (fun d => kvOf (k d) (v d)) q c (ix2 r e)
      = ∑ d : Dev nD, ∑ j, ((Real.exp (x d j) / ∑ d' : Dev nD, ∑ j', Real.exp (x d' j') : ℝ) : EReal) * v d (ix2 j e) := by
  have hs : (fun (A : Acc (Fin 256)) (i : ℕ) => A.step (score q (k (back c i)) r) (vrow (v (back c i))))
      = fun A i => A.step (fun j => ((fun i j => x (back c i) j) i j : EReal)) ((fun i => vrow (v (back c i))) i) := by
    funext A i
    rw [show score q (k (back c i)) r = fun j => (x (back c i) j : EReal) from funext fun j => hx _ j]
  have hg := (Good.all (good₀ (fun i j => x (back c i) j) (fun i => vrow (v (back c i))) r) 16)
  unfold resOf
  rw [outOf_apply, row_last, hs, Good.div (by norm_num) hg e]
  rw [sum_back c (fun d => ∑ j', Real.exp (x d j'))]
  exact sum_back c (fun d => ∑ j, ((Real.exp (x d j) / ∑ d' : Dev nD, ∑ j', Real.exp (x d' j') : ℝ) : EReal) * v d (ix2 j e))

/-- The score of finite entries. -/
theorem score_real (q k : FVec Ideal S4096x256 .f32) (q' k' : S4096x256.Idx → ℝ) (hq : ∀ i, q i = (q' i : EReal)) (hk : ∀ i, k i = (k' i : EReal))
    (r j : Fin 4096) : score q k r j = (((∑ x : Fin 256, q' (ix2 r x) * k' (ix2 j x)) * (1 / 16) : ℝ) : EReal) := by
  unfold score
  rw [scl_eq, EReal.coe_mul, coe_sum]
  refine congrArg (· * _) (Finset.sum_congr rfl fun x _ => ?_)
  rw [hq, hk, EReal.coe_mul]

end Cert.Ring

end
-- ==== Proof.Ref.lean ====
/-
The reference's result, read at an index: the softmax average of the values, row by row.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.RefVal

open Cert.ReferenceIdeal Cert.ReferenceIdeal.Gen
open Idealize.ShloMosaic
open Cert.Ring (softRow)

variable (q k v : FVec Ideal S65536x256 .f32)

/-- All scores. -/
def sc : FVec Ideal S65536x65536 .f32 :=
  Host.divf (Host.dotGeneral dot_S65536x256_S256x65536_S65536x65536_1_0_0_1_n_n none q (transpose S256x65536 [1, 0] k transposes_S65536x256_S256x65536_1_0))
    (broadcastInDim S65536x65536 ![] bcast_S_S65536x65536 (id (Host.sqrt (constant S_ .f32 0x43800000#32))))

/-- The exponentials of the scores less their row's greatest. -/
def ex : FVec Ideal S65536x65536 .f32 :=
  Host.exp (subf (sc q k) (broadcastInDim S65536x65536 ![0, 1] bcast_S65536x1_S65536x65536_0_1 (broadcastInDim S65536x1 ![0] bcast_S65536_S65536x1_0
    (Host.reduce FloatOps.maximumf (sc q k) (constant S_ .f32 0xFF800000#32) reducesTo_S65536x65536_S65536_d1 h_S_))))

/-- The reference's result. -/
def out : FVec Ideal S65536x256 .f32 :=
  Host.dotGeneral dot_S65536x65536_S65536x256_S65536x256_1_0_0_1_n_n none
    (Host.divf (ex q k) (broadcastInDim S65536x65536 ![0, 1] bcast_S65536x1_S65536x65536_0_1 (broadcastInDim S65536x1 ![0] bcast_S65536_S65536x1_0
      (Host.reduceAdd (ex q k) (constant S_ .f32 0x00000000#32) reducesTo_S65536x65536_S65536_d1 h_S_)))) v

/-- The divisor of the scores is sixteen. -/
theorem sixteen : Ideal.sqrt (Ideal.ofBits .f32 0x43800000#32) = ((16 : ℝ) : EReal) := by
  have h : Ideal.ofBits .f32 0x43800000#32 = ((256 : ℝ) : EReal) := by
    simp [Ideal.ofBits, Ideal.ieee]
    rw [← EReal.coe_mul]
    norm_num
  rw [h, Ideal.sqrt_coe, if_neg (by norm_num), show (256 : ℝ) = 16 * 16 by norm_num, Real.sqrt_mul_self (by norm_num)]

theorem negInf : Ideal.ofBits .f32 0xFF800000#32 = ⊥ := by simp [Ideal.ofBits, Ideal.ieee]

theorem sc_apply (r j : Fin 65536) : sc q k (ix2 r j) = (∑ x : Fin 256, q (ix2 r x) * k (ix2 j x)) * ((1 / 16 : ℝ) : EReal) := by
  pointwise [sc]
  show Ideal.div _ (Ideal.sqrt (Ideal.ofBits .f32 0x43800000#32)) = _
  rw [sixteen, Ideal.div_coe (by norm_num)]

theorem ex_apply (r j : Fin 65536) :
    ex q k (ix2 r j) = Ideal.exp (sc q k (ix2 r j) - Finset.univ.fold max ⊥ fun i : Fin 65536 => sc q k (ix2 r i)) := by
  pointwise [ex]
  rw [negInf]

theorem out_apply (r : Fin 65536) (d : Fin 256) :
    out q k v (ix2 r d) = softRow (fun j : Fin 65536 => sc q k (ix2 r j)) (fun j => v (ix2 j d)) := by
  pointwise [out, ex_apply, softRow]

end Cert.RefVal

end
-- ==== Proof.Equation.lean ====
/-
Each device's result is its block of the reference's result, when the queries and keys are real numbers.
-/
module

public import proofs.«01_k».proof.Proof.Result
public import proofs.«01_k».proof.Proof.Ref
public import Idealize.ShloMosaic.Lib.Layout

@[expose] public section

noncomputable section

namespace Cert.Ring

open Cert.KernelIdeal (S4096x256 nD)
open Cert.ReferenceIdeal (S65536x256)
open Idealize.ShloMosaic

/-- Row `j` of device `d`'s block, as a row of the whole array. -/
def glue (d : Dev nD) (j : Fin 4096) : Fin 65536 := ⟨d.val * 4096 + j.val, by have := d.isLt; have := j.isLt; simp only [nD] at *; omega⟩

/-- Every row of the whole array is a row of some device's block. -/
theorem glue_all (J : Fin 65536) : ∃ (d : Dev nD) (j : Fin 4096), J = glue d j :=
  ⟨⟨J.val / 4096, by have := J.isLt; simp only [nD]; omega⟩, ⟨J.val % 4096, Nat.mod_lt _ (by norm_num)⟩, Fin.ext (Nat.div_add_mod' J.val 4096).symm⟩

theorem sum_glue {M : Type*} [AddCommMonoid M] (f : Fin 65536 → M) : ∑ J, f J = ∑ d : Dev nD, ∑ j : Fin 4096, f (glue d j) :=
  Fin.sum_univ_tiles 16 4096 (by norm_num) f

/-- A device's block of a whole array. -/
abbrev blockOf (A : FVec Ideal S65536x256 .f32) (c : Dev nD) : FVec Ideal S4096x256 .f32 :=
  Layout.block ⟨2, ![4096, 256]⟩ ⟨2, ![65536, 256]⟩ 0 16 c A

theorem blockOf_apply (A : FVec Ideal S65536x256 .f32) (c : Dev nD) (r : Fin 4096) (x : Fin 256) : blockOf A c (ix2 r x) = A (ix2 (glue c r) x) := by
  refine congrArg A (funext fun a => ?_)
  fin_cases a <;> exact Fin.ext rfl

/-- The reference's scores are the devices' scores. -/
theorem sc_glue (Q K : FVec Ideal S65536x256 .f32) (c d : Dev nD) (r j : Fin 4096) :
    RefVal.sc Q K (ix2 (glue c r) (glue d j)) = score (blockOf Q c) (blockOf K d) r j := by
  rw [RefVal.sc_apply]
  unfold score
  rw [scl_eq]
  simp only [blockOf_apply]

/-- What a device computes is its block of what the reference computes. -/
theorem result_eq (Q K V : FVec Ideal S65536x256 .f32) (hQ : ∀ c i, ∃ y : ℝ, blockOf Q c i = (y : EReal)) (hK : ∀ c i, ∃ y : ℝ, blockOf K c i = (y : EReal))
    (c : Dev nD) : resOf (F := Ideal) (fun d => kvOf (blockOf K d) (blockOf V d)) (blockOf Q c) c = blockOf (RefVal.out Q K V) c := by
  choose q' hq using hQ c
  choose k' hk using hK
  funext i
  obtain ⟨r, e, rfl⟩ : ∃ (r : Fin 4096) (e : Fin 256), i = ix2 r e := ⟨i 0, i 1, funext fun a => by fin_cases a <;> rfl⟩
  rw [blockOf_apply, RefVal.out_apply]
  have hx : ∀ d j, score (blockOf Q c) (blockOf K d) r j = (((∑ x : Fin 256, q' (ix2 r x) * k' d (ix2 j x)) * (1 / 16) : ℝ) : EReal) :=
    fun d j => score_real _ _ q' (k' d) hq (hk d) r j
  generalize hX : (fun (d : Dev nD) (j : Fin 4096) => ((∑ x : Fin 256, q' (ix2 r x) * k' d (ix2 j x)) * (1 / 16) : ℝ)) = X at hx
  replace hx : ∀ d j, score (blockOf Q c) (blockOf K d) r j = (X d j : EReal) := fun d j => by rw [← hX]; exact hx d j
  have hy : ∀ J, RefVal.sc Q K (ix2 (glue c r) J) = (((RefVal.sc Q K (ix2 (glue c r) J)).toReal : ℝ) : EReal) := fun J => by
    obtain ⟨d, j, rfl⟩ := glue_all J
    rw [sc_glue, hx, EReal.toReal_coe]
  generalize hY : (fun J => (RefVal.sc Q K (ix2 (glue c r) J)).toReal) = Y at hy
  replace hy : ∀ J, RefVal.sc Q K (ix2 (glue c r) J) = (Y J : EReal) := fun J => by rw [← hY]; exact hy J
  have hxy : ∀ d j, Y (glue d j) = X d j := fun d j => by
    have h := hy (glue d j)
    rw [sc_glue, hx] at h
    exact (EReal.coe_injective h).symm
  rw [res_apply (blockOf Q c) (blockOf K) (blockOf V) c r X hx e,
    show (fun J => RefVal.sc Q K (ix2 (glue c r) J)) = fun J => (Y J : EReal) from funext hy, softRow_real (glue c r)]
  simp only [sum_glue, hxy, blockOf_apply]

end Cert.Ring

end
-- ==== Proof.Entries.lean ====
/-
What the precondition says of the arguments: every entry of the queries and of the keys is a real number.
-/
module

public import proofs.«01_k».proof.Proof.Gen.Pre_finite_scores_KernelIdeal
public import Idealize.ShloMosaic.PureOps.Ideal
public import Idealize.ShloMosaic.PureOps.Reduce
public import Idealize.ShloMosaic.Lib.Pointwise

@[expose] public section

noncomputable section

namespace Cert.Entries

open Cert.Pre_finite_scores_KernelIdeal Cert.Pre_finite_scores_KernelIdeal.Gen
open Idealize.ShloMosaic

theorem and_eq_one (a b : BitVec 1) (h : IntOp.andi a b = 1#1) : a = 1#1 ∧ b = 1#1 := by
  revert a b; decide

/-- If a conjunction over a list is one, so is each of its members. -/
theorem fold_and {α : Type} (f : α → BitVec 1) (l : List α) (a : BitVec 1) (h : l.foldl (fun r i => IntOp.andi r (f i)) a = 1#1) :
    a = 1#1 ∧ ∀ i ∈ l, f i = 1#1 := by
  induction l generalizing a with
  | nil => exact ⟨h, fun i hi => absurd hi (List.not_mem_nil)⟩
  | cons b l ih =>
    obtain ⟨h1, h2⟩ := ih _ h
    obtain ⟨h3, h4⟩ := and_eq_one _ _ h1
    refine ⟨h3, fun i hi => ?_⟩
    rcases List.mem_cons.1 hi with rfl | hi
    · exact h4
    · exact h2 i hi

/-- If the conjunction of a whole array is one, so is each of its entries. -/
theorem all_one (x : IVec S4096x256 1) (h : Host.reduce IntOp.andi x (constantI S_ 1 1#1) reducesTo_S4096x256_S_d0_1 h_S_ = fun _ => 1#1)
    (i : S4096x256.Idx) : x i = 1#1 := by
  have e := congrFun h (fun a => a.elim0)
  rw [Host.reduce_eq_foldl] at e
  refine (fold_and x _ _ e).2 i (List.mem_filter.2 ⟨List.mem_map.2 ⟨S4096x256.rowMajor i, List.mem_finRange _, Equiv.symm_apply_apply _ _⟩, ?_⟩)
  exact decide_eq_true (funext fun a => a.elim0)

theorem infty : Ideal.ofBits .f32 0x7F800000#32 = ⊤ := by simp [Ideal.ofBits, Ideal.ieee]

/-- An entry whose magnitude is below infinity is a real number. -/
theorem real_of (x : EReal) (h : BitVec.ofBool (decide (max x (-x) < ⊤)) = 1#1) : x = ((x.toReal : ℝ) : EReal) := by
  have hlt : max x (-x) < ⊤ := by
    by_contra hn
    rw [decide_eq_false hn] at h
    exact absurd h (by decide)
  obtain ⟨h1, h2⟩ := max_lt_iff.1 hlt
  refine (EReal.coe_toReal h1.ne ?_).symm
  rintro rfl
  exact absurd h2 (by simp)

theorem entry (x : FVec Ideal S4096x256 .f32) (i : S4096x256.Idx)
    (h : cmpf .olt (Host.absf x) (broadcastInDim S4096x256 ![] bcast_S_S4096x256 (constant S_ .f32 0x7F800000#32)) i = 1#1) :
    x i = (((x i).toReal : ℝ) : EReal) := by
  refine real_of (x i) ?_
  rw [← infty]
  exact h

/-- The precondition: the queries and the keys hold real numbers. -/
theorem entries (q k v : FVec Ideal S4096x256 .f32) (h : fn (F := Ideal) q k v = fun _ => 1#1) :
    (∀ i, q i = (((q i).toReal : ℝ) : EReal)) ∧ ∀ i, k i = (((k i).toReal : ℝ) : EReal) := by
  have hb : ∀ j, _ := fun j => and_eq_one _ _ (congrFun h j)
  exact ⟨fun i => entry q i (all_one _ (funext fun j => (hb j).1) i), fun i => entry k i (all_one _ (funext fun j => (hb j).2) i)⟩

end Cert.Entries

end
-- ==== Proof.lean ====
/-
The proof of `Cert.Claim`: the frames of the kernel program (over the bits and over the ideal values) and of the
reference, and the value of the result under the precondition.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Final
public import proofs.«01_k».proof.Proof.Equation
public import proofs.«01_k».proof.Proof.Entries
public import Idealize.ShloMosaic.Adequacy
public import Idealize.ShloMosaic.Init

@[expose] public section

noncomputable section

namespace Cert.Proof

open Idealize.ShloMosaic Idealize.SL.Sem Idealize.ShloMosaic.TcCoe

/-- The kernel program, over the bits. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (Cert.Ring.arrays m ρ h.1 c).2, h.2⟩) (Cert.Ring.run_main (F := Bits) m ρ)

/-! The two printed kernel programs have the same text, so their body tables are equal. -/

theorem body_same {F : FTy → Type} [FloatOps F] : @Cert.Kernel.cc0_body F _ Cert.Kernel.Gen.facts = @Cert.KernelIdeal.cc0_body F _ Cert.KernelIdeal.Gen.facts := rfl

theorem table_same {F : FTy → Type} [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) =>
    show @Cert.Kernel.cc0_body F _ Cert.Kernel.Gen.facts _ _ _ _ _ _ _ _ _ _ _ _ _ _ _ _ _ = _
    rw [body_same]

theorem defs_same {F : FTy → Type} [FloatOps F] : @Cert.Kernel.defs F _ Cert.Kernel.Gen.facts = @Cert.KernelIdeal.defs F _ Cert.KernelIdeal.Gen.facts := by
  unfold Cert.Kernel.defs Cert.KernelIdeal.defs
  exact congrArg (Pipeline.defs _) table_same

/-- The kernel program as printed for the bits. -/
theorem frame_kernel : Cert.quiescent_Kernel := fun m ρ _ => by
  have h := frame_bits m ρ
  rw [← defs_same] at h
  exact h

/-- The kernel program, over the ideal values. -/
theorem frame_ideal : Cert.quiescent_KernelIdeal := fun m ρ _ =>
  (θ_run Cert.KernelIdeal.defs _ _).mono (fun _ h => ⟨fun c => (Cert.Ring.arrays m ρ h.1 c).2, h.2⟩) (Cert.Ring.run_main (F := Ideal) m ρ)

/-- The reference. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- The devices' results are the blocks of the reference's result. -/
theorem value : Cert.algebraic_KernelIdeal_ReferenceIdeal_pre_finite_scores_KernelIdeal := by
  intro m ρ m' ρ' hpre hblk
  let at0 : Thread Cert.ReferenceIdeal.nD Cert.ReferenceIdeal.τ := (0 : Dev Cert.ReferenceIdeal.nD).tc
  refine ⟨Cert.RefVal.out (m' (at0.loc Cert.ReferenceIdeal.main_arg0)) (m' (at0.loc Cert.ReferenceIdeal.main_arg1)) (m' (at0.loc Cert.ReferenceIdeal.main_arg2)), ?_, ?_⟩
  · refine (θ_run Cert.KernelIdeal.defs _ _).mono (fun _ h c => ?_) (Cert.Ring.run_main (F := Ideal) m ρ)
    obtain ⟨ho, hargs⟩ := Cert.Ring.arrays m ρ h.1 c
    refine ⟨ho.trans ?_, hargs⟩
    rw [(hblk c).1]
    have hkv : (fun d : Dev Cert.KernelIdeal.nD => Cert.Ring.kvOf (F := Ideal) (m ((d.tc : Thread Cert.KernelIdeal.nD Cert.KernelIdeal.τ).loc Cert.KernelIdeal.main_arg1))
          (m ((d.tc : Thread Cert.KernelIdeal.nD Cert.KernelIdeal.τ).loc Cert.KernelIdeal.main_arg2)))
        = fun d => Cert.Ring.kvOf (F := Ideal) (Cert.Ring.blockOf (m' (at0.loc Cert.ReferenceIdeal.main_arg1)) d) (Cert.Ring.blockOf (m' (at0.loc Cert.ReferenceIdeal.main_arg2)) d) :=
      funext fun d => by rw [(hblk d).2.1, (hblk d).2.2]
    rw [hkv]
    refine Cert.Ring.result_eq _ _ _ (fun d i => ?_) (fun d i => ?_) c
    · have e := (Cert.Entries.entries _ _ _ (hpre d)).1 i
      rw [(hblk d).1] at e
      exact ⟨_, e⟩
    · have e := (Cert.Entries.entries _ _ _ (hpre d)).2 i
      rw [(hblk d).2.1] at e
      exact ⟨_, e⟩
  · exact (θ_run _ _ _).mono (fun r h => h 0) (Cert.ReferenceIdeal.Value.run m' ρ')

theorem claim : Cert.Claim :=
  ⟨Cert.Kernel.Gen.facts, Cert.KernelIdeal.Gen.facts, Cert.ReferenceIdeal.Gen.facts, Cert.Pre_finite_scores_KernelIdeal.Gen.facts, Cert.Pre_finite_scores_ReferenceIdeal.Gen.facts,
    frame_kernel, frame_ideal, fun m ρ _ => frame_ideal m ρ trivial, frame_reference, fun m ρ _ => frame_reference m ρ trivial, trivial, value⟩

end Cert.Proof

end
